-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x512 : Shape := ⟨3, ![8, 2048, 512]⟩
abbrev S8x2048x64 : Shape := ⟨3, ![8, 2048, 64]⟩
abbrev S8 : Shape := ⟨1, ![8]⟩
abbrev S1 : Shape := ⟨1, ![1]⟩
abbrev S_ : Shape := ⟨0, ![]⟩
abbrev S8x2048x128 : Shape := ⟨3, ![8, 2048, 128]⟩
abbrev S8x1x2048x128 : Shape := ⟨4, ![8, 1, 2048, 128]⟩
abbrev S8x2x2048x128 : Shape := ⟨4, ![8, 2, 2048, 128]⟩
abbrev S8x64x2048 : Shape := ⟨3, ![8, 64, 2048]⟩
abbrev S1x2048x512 : Shape := ⟨3, ![1, 2048, 512]⟩
abbrev S1x2x2048x128 : Shape := ⟨4, ![1, 2, 2048, 128]⟩
abbrev S1x64x2048 : Shape := ⟨3, ![1, 64, 2048]⟩
abbrev S2x2048x512 : Shape := ⟨3, ![2, 2048, 512]⟩
abbrev S128x512 : Shape := ⟨2, ![128, 512]⟩
abbrev S1x128x512 : Shape := ⟨3, ![1, 128, 512]⟩
abbrev S128x128 : Shape := ⟨2, ![128, 128]⟩
abbrev S512x128 : Shape := ⟨2, ![512, 128]⟩
abbrev S1x128 : Shape := ⟨2, ![1, 128]⟩
abbrev S1x512 : Shape := ⟨2, ![1, 512]⟩
abbrev S8x512 : Shape := ⟨2, ![8, 512]⟩
abbrev S1x1x128x128 : Shape := ⟨4, ![1, 1, 128, 128]⟩
abbrev S16x8x512 : Shape := ⟨3, ![16, 8, 512]⟩
abbrev S512 : Shape := ⟨1, ![512]⟩
abbrev S1x64x128 : Shape := ⟨3, ![1, 64, 128]⟩
abbrev S64x128 : Shape := ⟨2, ![64, 128]⟩
abbrev S64x512 : Shape := ⟨2, ![64, 512]⟩
abbrev S1x128x128 : Shape := ⟨3, ![1, 128, 128]⟩
abbrev S1x64x256 : Shape := ⟨3, ![1, 64, 256]⟩
abbrev S64x256 : Shape := ⟨2, ![64, 256]⟩
abbrev S1x256x512 : Shape := ⟨3, ![1, 256, 512]⟩
abbrev S256x512 : Shape := ⟨2, ![256, 512]⟩
abbrev S1x1x256x128 : Shape := ⟨4, ![1, 1, 256, 128]⟩
abbrev S256x128 : Shape := ⟨2, ![256, 128]⟩
abbrev S32x8x512 : Shape := ⟨3, ![32, 8, 512]⟩
abbrev S1x64x384 : Shape := ⟨3, ![1, 64, 384]⟩
abbrev S64x384 : Shape := ⟨2, ![64, 384]⟩
abbrev S1x384x512 : Shape := ⟨3, ![1, 384, 512]⟩
abbrev S384x512 : Shape := ⟨2, ![384, 512]⟩
abbrev S1x1x384x128 : Shape := ⟨4, ![1, 1, 384, 128]⟩
abbrev S384x128 : Shape := ⟨2, ![384, 128]⟩
abbrev S48x8x512 : Shape := ⟨3, ![48, 8, 512]⟩
abbrev S1x64x512 : Shape := ⟨3, ![1, 64, 512]⟩
abbrev S1x512x512 : Shape := ⟨3, ![1, 512, 512]⟩
abbrev S512x512 : Shape := ⟨2, ![512, 512]⟩
abbrev S1x1x512x128 : Shape := ⟨4, ![1, 1, 512, 128]⟩
abbrev S64x8x512 : Shape := ⟨3, ![64, 8, 512]⟩
abbrev S1x64x640 : Shape := ⟨3, ![1, 64, 640]⟩
abbrev S64x640 : Shape := ⟨2, ![64, 640]⟩
abbrev S1x640x512 : Shape := ⟨3, ![1, 640, 512]⟩
abbrev S640x512 : Shape := ⟨2, ![640, 512]⟩
abbrev S1x64x768 : Shape := ⟨3, ![1, 64, 768]⟩
abbrev S64x768 : Shape := ⟨2, ![64, 768]⟩
abbrev S1x768x512 : Shape := ⟨3, ![1, 768, 512]⟩
abbrev S768x512 : Shape := ⟨2, ![768, 512]⟩
abbrev S1x64x896 : Shape := ⟨3, ![1, 64, 896]⟩
abbrev S64x896 : Shape := ⟨2, ![64, 896]⟩
abbrev S1x896x512 : Shape := ⟨3, ![1, 896, 512]⟩
abbrev S896x512 : Shape := ⟨2, ![896, 512]⟩
abbrev S1x64x1024 : Shape := ⟨3, ![1, 64, 1024]⟩
abbrev S64x1024 : Shape := ⟨2, ![64, 1024]⟩
abbrev S1x1024x512 : Shape := ⟨3, ![1, 1024, 512]⟩
abbrev S1024x512 : Shape := ⟨2, ![1024, 512]⟩
abbrev S1x64x1152 : Shape := ⟨3, ![1, 64, 1152]⟩
abbrev S64x1152 : Shape := ⟨2, ![64, 1152]⟩
abbrev S1x1152x512 : Shape := ⟨3, ![1, 1152, 512]⟩
abbrev S1152x512 : Shape := ⟨2, ![1152, 512]⟩
abbrev S1x64x1280 : Shape := ⟨3, ![1, 64, 1280]⟩
abbrev S64x1280 : Shape := ⟨2, ![64, 1280]⟩
abbrev S1x1280x512 : Shape := ⟨3, ![1, 1280, 512]⟩
abbrev S1280x512 : Shape := ⟨2, ![1280, 512]⟩
abbrev S1x64x1408 : Shape := ⟨3, ![1, 64, 1408]⟩
abbrev S64x1408 : Shape := ⟨2, ![64, 1408]⟩
abbrev S1x1408x512 : Shape := ⟨3, ![1, 1408, 512]⟩
abbrev S1408x512 : Shape := ⟨2, ![1408, 512]⟩
abbrev S1x64x1536 : Shape := ⟨3, ![1, 64, 1536]⟩
abbrev S64x1536 : Shape := ⟨2, ![64, 1536]⟩
abbrev S1x1536x512 : Shape := ⟨3, ![1, 1536, 512]⟩
abbrev S1536x512 : Shape := ⟨2, ![1536, 512]⟩
abbrev S1x64x1664 : Shape := ⟨3, ![1, 64, 1664]⟩
abbrev S64x1664 : Shape := ⟨2, ![64, 1664]⟩
abbrev S1x1664x512 : Shape := ⟨3, ![1, 1664, 512]⟩
abbrev S1664x512 : Shape := ⟨2, ![1664, 512]⟩
abbrev S1x64x1792 : Shape := ⟨3, ![1, 64, 1792]⟩
abbrev S64x1792 : Shape := ⟨2, ![64, 1792]⟩
abbrev S1x1792x512 : Shape := ⟨3, ![1, 1792, 512]⟩
abbrev S1792x512 : Shape := ⟨2, ![1792, 512]⟩
abbrev S1x64x1920 : Shape := ⟨3, ![1, 64, 1920]⟩
abbrev S64x1920 : Shape := ⟨2, ![64, 1920]⟩
abbrev S1x1920x512 : Shape := ⟨3, ![1, 1920, 512]⟩
abbrev S1920x512 : Shape := ⟨2, ![1920, 512]⟩
abbrev S64x2048 : Shape := ⟨2, ![64, 2048]⟩
abbrev S2048x512 : Shape := ⟨2, ![2048, 512]⟩

abbrev nBuf : Space → Nat
  | .hbm => 16
  | .vmem => 10
  | .smem => 3
  | _ => 0

abbrev bufTy : (tb : Table) → Fin (tcTables nBuf tb) → BufTy
  | .hbm, ⟨0, _⟩ => ⟨S8x2048x512, .fp8e4m3⟩
  | .hbm, ⟨1, _⟩ => ⟨S8x2048x64, .fp8e4m3⟩
  | .hbm, ⟨2, _⟩ => ⟨S8x2048x64, .fp8e4m3⟩
  | .hbm, ⟨3, _⟩ => ⟨S8, .f32⟩
  | .hbm, ⟨4, _⟩ => ⟨S1, .f32⟩
  | .hbm, ⟨5, _⟩ => ⟨S1, .f32⟩
  | .hbm, ⟨6, _⟩ => ⟨S_, .i8⟩
  | .hbm, ⟨7, _⟩ => ⟨S8x2048x64, .i8⟩
  | .hbm, ⟨8, _⟩ => ⟨S8x2048x64, .fp8e4m3⟩
  | .hbm, ⟨9, _⟩ => ⟨S8x2048x128, .fp8e4m3⟩
  | .hbm, ⟨10, _⟩ => ⟨S8x2048x128, .fp8e4m3⟩
  | .hbm, ⟨11, _⟩ => ⟨S8x1x2048x128, .fp8e4m3⟩
  | .hbm, ⟨12, _⟩ => ⟨S8x1x2048x128, .fp8e4m3⟩
  | .hbm, ⟨13, _⟩ => ⟨S8x2x2048x128, .fp8e4m3⟩
  | .hbm, ⟨14, _⟩ => ⟨S8x64x2048, .fp8e4m3⟩
  | .hbm, ⟨15, _⟩ => ⟨S8x2048x512, .bf16⟩
  | .local _ .vmem, ⟨0, _⟩ => ⟨S1x2048x512, .fp8e4m3⟩
  | .local _ .vmem, ⟨1, _⟩ => ⟨S1x2048x512, .fp8e4m3⟩
  | .local _ .vmem, ⟨2, _⟩ => ⟨S1x2x2048x128, .fp8e4m3⟩
  | .local _ .vmem, ⟨3, _⟩ => ⟨S1x2x2048x128, .fp8e4m3⟩
  | .local _ .vmem, ⟨4, _⟩ => ⟨S1x64x2048, .fp8e4m3⟩
  | .local _ .vmem, ⟨5, _⟩ => ⟨S1x64x2048, .fp8e4m3⟩
  | .local _ .vmem, ⟨6, _⟩ => ⟨S1x2048x512, .bf16⟩
  | .local _ .vmem, ⟨7, _⟩ => ⟨S1x2048x512, .bf16⟩
  | .local _ .vmem, ⟨8, _⟩ => ⟨S2x2048x512, .f32⟩
  | .local _ .vmem, ⟨9, _⟩ => ⟨S2x2048x512, .fp8e4m3⟩
  | .local _ .smem, ⟨0, _⟩ => ⟨S8, .f32⟩
  | .local _ .smem, ⟨1, _⟩ => ⟨S1, .f32⟩
  | .local _ .smem, ⟨2, _⟩ => ⟨S1, .f32⟩
  | _, _ => ⟨S8x2048x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2048x512 : Shape := ⟨3, ![8, 2048, 512]⟩
abbrev S8x2048x64 : Shape := ⟨3, ![8, 2048, 64]⟩
abbrev S8 : Shape := ⟨1, ![8]⟩
abbrev S1 : Shape := ⟨1, ![1]⟩
abbrev S8x2048x8x64 : Shape := ⟨4, ![8, 2048, 8, 64]⟩
abbrev S8x2048x2048x8 : Shape := ⟨4, ![8, 2048, 2048, 8]⟩
abbrev S8x8x2048x2048 : Shape := ⟨4, ![8, 8, 2048, 2048]⟩
abbrev S1x8x1x1 : Shape := ⟨4, ![1, 8, 1, 1]⟩
abbrev S2048x2048 : Shape := ⟨2, ![2048, 2048]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩
abbrev S8x64x8x2048 : Shape := ⟨4, ![8, 64, 8, 2048]⟩
abbrev S1x1x1x1 : Shape := ⟨4, ![1, 1, 1, 1]⟩
abbrev S8x2048x8x1 : Shape := ⟨4, ![8, 2048, 8, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x512, .fp8e4m3⟩
  | .hbm, ⟨1, _⟩ => ⟨S8x2048x64, .fp8e4m3⟩
  | .hbm, ⟨2, _⟩ => ⟨S8x2048x64, .fp8e4m3⟩
  | .hbm, ⟨3, _⟩ => ⟨S8, .f32⟩
  | .hbm, ⟨4, _⟩ => ⟨S1, .f32⟩
  | .hbm, ⟨5, _⟩ => ⟨S1, .f32⟩
  | .hbm, ⟨6, _⟩ => ⟨S8x2048x512, .bf16⟩
  | .local _ .vmem, ⟨0, _⟩ => ⟨S8x2048x512, .fp8e4m3⟩
  | .local _ .vmem, ⟨1, _⟩ => ⟨S8x2048x64, .fp8e4m3⟩
  | .local _ .vmem, ⟨2, _⟩ => ⟨S8x2048x64, .fp8e4m3⟩
  | .local _ .vmem, ⟨3, _⟩ => ⟨S8, .f32⟩
  | .local _ .vmem, ⟨4, _⟩ => ⟨S1, .f32⟩
  | .local _ .vmem, ⟨5, _⟩ => ⟨S1, .f32⟩
  | .local _ .vmem, ⟨6, _⟩ => ⟨S8x2048x512, .bf16⟩
  | _, _ => ⟨S8x2048x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Stages.lean ====
module

public import proofs.«01_k».proof.Proof.Gen.KernelIdeal.Value
public import Idealize.ShloMosaic.Lib.MatmulPlain
public import Idealize.ShloMosaic.Lib.ShapeFacts

/-! The kernel's body as one recursion over query blocks. The printed body is unrolled: sixteen query blocks, two heads of a pair in each, and for
    each of those a list of key chunks of one to four times 128 keys. Here the same operations are written once, for any chunk. -/

@[expose] public section

set_option maxRecDepth 16384

noncomputable section

namespace Cert.Attn

open Idealize.ShloMosaic Cert.KernelIdeal Cert.KernelIdeal.Gen

variable {F : FTy → Type} [FloatOps F] [Named F]

/-- A chunk of keys: the `128 * n` keys from `lo` on. -/
structure Chunk where
  lo : ℕ
  n : ℕ
  inb : lo + 128 * n ≤ 2048

/-- Matrices with `128 * n` rows and `w` columns. -/
abbrev Mat (n w : ℕ) : Shape := ⟨2, ![128 * n, w]⟩

/-- The same rows under a leading unit axis. -/
abbrev Mat1 (n w : ℕ) : Shape := ⟨3, ![1, 128 * n, w]⟩

/-- The same rows in groups of eight. -/
abbrev Fold (n w : ℕ) : Shape := ⟨3, ![16 * n, 8, w]⟩

/-- A block of keys as loaded. -/
abbrev KeyBlk (n : ℕ) : Shape := ⟨4, ![1, 1, 128 * n, 128]⟩

/-- A block of values as loaded, one row per coordinate of a head. -/
abbrev ValBlk (n : ℕ) : Shape := ⟨3, ![1, 64, 128 * n]⟩

/-- The block of values without its unit axis. -/
abbrev ValMat (n : ℕ) : Shape := ⟨2, ![64, 128 * n]⟩

/-- Dropping a leading unit axis. -/
theorem cast_mat1 (n w : ℕ) : (Mat1 n w).ShapeCasts (Mat n w) := by
  simp [Shape.ShapeCasts, Shape.numel_rank3, Shape.numel_rank2]

/-- Adding a leading unit axis. -/
theorem cast_mat1' (n w : ℕ) : (Mat n w).ShapeCasts (Mat1 n w) := by
  simp [Shape.ShapeCasts, Shape.numel_rank3, Shape.numel_rank2]

/-- Splitting rows into groups of eight. -/
theorem cast_fold (n w : ℕ) : (Mat n w).ShapeCasts (Fold n w) := by
  simp only [Shape.ShapeCasts, Shape.numel_rank3, Shape.numel_rank2]
  simp
  left; ring

/-- Dropping the keys' unit axes. -/
theorem cast_key (n : ℕ) : (KeyBlk n).ShapeCasts (Mat n 128) := by
  simp [Shape.ShapeCasts, Shape.numel_rank4, Shape.numel_rank2]

/-- Dropping the values' unit axis. -/
theorem cast_val (n : ℕ) : (ValBlk n).ShapeCasts (ValMat n) := by
  simp [Shape.ShapeCasts, Shape.numel_rank3, Shape.numel_rank2]

/-- One row repeats to a matrix. -/
theorem bcast_row (n : ℕ) : S1x512.Broadcasts (Mat n 512) := by
  refine ⟨le_rfl, fun a => ?_⟩
  match a with
  | ⟨0, _⟩ => exact .inl rfl
  | ⟨1, _⟩ => exact .inr fun _ => rfl

/-- Reducing over the groups leaves eight rows. -/
theorem red_fold (n : ℕ) : (Fold n 512).Reduces [0] S8x512 := by
  refine ⟨rfl, by decide, fun b => ?_⟩
  match b with
  | ⟨0, _⟩ => rfl
  | ⟨1, _⟩ => rfl

/-- A chunk of keys lies within the keys. -/
theorem inb_key (e : Fin 2) (c : Chunk) : ∀ a, (![0, e.val, c.lo, 0] : Fin 4 → ℕ) a + (KeyBlk c.n).size a ≤ S1x2x2048x128.size a := by
  have := c.inb; have := e.isLt
  intro a
  match a with
  | ⟨0, _⟩ => show 0 + 1 ≤ 1; omega
  | ⟨1, _⟩ => show e.val + 1 ≤ 2; omega
  | ⟨2, _⟩ => show c.lo + 128 * c.n ≤ 2048; omega
  | ⟨3, _⟩ => show 0 + 128 ≤ 128; omega

/-- A chunk lies within the scratch. -/
theorem inb_scr (e : Fin 2) (c : Chunk) : ∀ a, (![e.val, c.lo, 0] : Fin 3 → ℕ) a + (Mat1 c.n 512).size a ≤ S2x2048x512.size a := by
  have := c.inb; have := e.isLt
  intro a
  match a with
  | ⟨0, _⟩ => show e.val + 1 ≤ 2; omega
  | ⟨1, _⟩ => show c.lo + 128 * c.n ≤ 2048; omega
  | ⟨2, _⟩ => show 0 + 512 ≤ 512; omega

/-- A run of values lies within the values. -/
theorem inb_val (n : ℕ) (h : 128 * n ≤ 2048) : ∀ a, (![0, 0, 0] : Fin 3 → ℕ) a + (ValBlk n).size a ≤ S1x64x2048.size a := by
  intro a
  match a with
  | ⟨0, _⟩ => show 0 + 1 ≤ 1; omega
  | ⟨1, _⟩ => show 0 + 64 ≤ 64; omega
  | ⟨2, _⟩ => show 0 + 128 * n ≤ 2048; omega

/-- A query block lies within the queries. -/
theorem inb_x (qi : Fin 16) : ∀ a, (![0, 128 * qi.val, 0] : Fin 3 → ℕ) a + S1x128x512.size a ≤ S1x2048x512.size a := by
  have := qi.isLt
  intro a
  match a with
  | ⟨0, _⟩ => show 0 + 1 ≤ 1; omega
  | ⟨1, _⟩ => show 128 * qi.val + 128 ≤ 2048; omega
  | ⟨2, _⟩ => show 0 + 512 ≤ 512; omega

/-- An output tile lies within the output. -/
theorem inb_out (qi : Fin 16) (t : Fin 4) : ∀ a, (![0, 128 * qi.val, 128 * t.val] : Fin 3 → ℕ) a + S1x128x128.size a ≤ S1x2048x512.size a := by
  have := qi.isLt; have := t.isLt
  intro a
  match a with
  | ⟨0, _⟩ => show 0 + 1 ≤ 1; omega
  | ⟨1, _⟩ => show 128 * qi.val + 128 ≤ 2048; omega
  | ⟨2, _⟩ => show 128 * t.val + 128 ≤ 512; omega

/-- A head's scale lies within the scales. -/
theorem inb_head (h : Fin 8) : ∀ a, (![h.val] : Fin 1 → ℕ) a + S1.size a ≤ S8.size a := by
  have := h.isLt
  intro a
  match a with
  | ⟨0, _⟩ => show h.val + 1 ≤ 8; omega

/-- A tile lies within the query block. -/
theorem slices_tile (t : Fin 4) : S128x512.Slices ![0, 128 * t.val] S128x128 := by
  have := t.isLt
  refine ⟨rfl, fun a => ?_⟩
  match a with
  | ⟨0, _⟩ => show 0 + 128 ≤ 128; omega
  | ⟨1, _⟩ => show 128 * t.val + 128 ≤ 512; omega

/-- The chunks of the keys before a query block: `rem` blocks of 128 keys from `lo` on, four at a time. -/
def chunksFrom : (fuel lo rem : ℕ) → lo + 128 * rem ≤ 2048 → List Chunk
  | 0, _, _, _ => []
  | _ + 1, _, 0, _ => []
  | f + 1, lo, r + 1, h =>
    ⟨lo, min 4 (r + 1), by omega⟩ :: chunksFrom f (lo + 128 * min 4 (r + 1)) (r + 1 - 4) (by omega)

/-- The chunks wholly before query block `qi`. -/
def chunks (qi : Fin 16) : List Chunk := chunksFrom 4 0 qi.val (by omega)

/-- The chunk of query block `qi`'s own keys. -/
def diag (qi : Fin 16) : Chunk := ⟨128 * qi.val, 1, by omega⟩

/-- A chunk of keys with its scores against 512 columns. -/
structure Scored (F : FTy → Type) where
  c : Chunk
  sc : FVec F (Mat c.n 512) .f32

/-- The rectangle of a scratch buffer that holds a chunk of head `e` of the pair. -/
abbrev scrRect (e : Fin 2) (c : Chunk) : Rect S2x2048x512 :=
  Rect.unit ![e.val, c.lo, 0] (Mat1 c.n 512).size (inb_scr e c)

/-- A run from the start lies within the scratch. -/
theorem inb_scr0 (e : Fin 2) (n : ℕ) (h : 128 * n ≤ 2048) : ∀ a, (![e.val, 0, 0] : Fin 3 → ℕ) a + (Mat1 n 512).size a ≤ S2x2048x512.size a := by
  have := e.isLt
  intro a
  match a with
  | ⟨0, _⟩ => show e.val + 1 ≤ 2; omega
  | ⟨1, _⟩ => show 0 + 128 * n ≤ 2048; omega
  | ⟨2, _⟩ => show 0 + 512 ≤ 512; omega

/-! ## One head of a pair: from the scores to the scaled output -/

section Head

variable (e : Fin 2) (S : List (Scored F))

/-- The scores stored chunk by chunk over the stores `L`. -/
def scoreStores (L : List (View.Piece (Elt F) S2x2048x512 .f32)) : List (View.Piece (Elt F) S2x2048x512 .f32) :=
  S.foldl (fun L (s : Scored F) => ⟨scrRect e s.c, shapeCast (Mat1 s.c.n 512) s.sc (cast_mat1' s.c.n 512)⟩ :: L) L

/-- The running maximum over the chunks, one per residue of the key modulo eight. -/
def max8 : FVec F S8x512 .f32 :=
  S.foldl (fun m (s : Scored F) => maximumf m (multiReduction .maximumf [0] S8x512 (shapeCast (Fold s.c.n 512) s.sc (cast_fold s.c.n 512)) 0xFF800000#32
    (red_fold s.c.n) (.inl rfl) rfl)) (broadcast S8x512 (Scalar.ofBits .f32 0xFF800000#32))

/-- The maximum over all the keys, less eight. -/
def shift : FVec F S1x512 .f32 :=
  subf (shapeCast S1x512 (multiReduction .maximumf [0] S512 (max8 S) 0xFF800000#32 reduces_S8x512_S512 (.inl rfl) rfl) shapeCasts_S512_S1x512)
    (broadcast S1x512 (Scalar.ofBits .f32 0x41000000#32))

variable (a8 : Memref sig .tc .vmem S2x2048x512 .f32) (a9 : Memref sig .tc .vmem S2x2048x512 .fp8e4m3)

/-- A chunk's exponentials, of the scores read back from the stores `L`. -/
def expo (L : List (View.Piece (Elt F) S2x2048x512 .f32)) (c : Chunk) : FVec F (Mat c.n 512) .f32 :=
  exp2 (subf (shapeCast (Mat c.n 512) (View.readCov a8.view L (scrRect e c).toLoadRect) (cast_mat1 c.n 512))
    (broadcastTo (Mat c.n 512) (shift S) (bcast_row c.n)))

/-- The running sum of the exponentials, one per residue of the key modulo eight. -/
def sum8 (L : List (View.Piece (Elt F) S2x2048x512 .f32)) : FVec F S8x512 .f32 :=
  S.foldl (fun m (s : Scored F) => addf m (multiReduction .add [0] S8x512 (shapeCast (Fold s.c.n 512) (expo e S a8 L s.c) (cast_fold s.c.n 512)) 0x00000000#32
    (red_fold s.c.n) (.inl rfl) rfl)) (broadcast S8x512 (Scalar.ofBits .f32 0x00000000#32))

/-- The exponentials, capped at 448, stored chunk by chunk over the stores `M`. -/
def codeStores (L : List (View.Piece (Elt F) S2x2048x512 .f32)) (M : List (View.Piece (Elt F) S2x2048x512 .fp8e4m3)) :
    List (View.Piece (Elt F) S2x2048x512 .fp8e4m3) :=
  S.foldl (fun M (s : Scored F) => ⟨scrRect e s.c, shapeCast (Mat1 s.c.n 512) (truncf .fp8e4m3 (minimumf (expo e S a8 L s.c : FVec F (Mat s.c.n 512) .f32)
    (broadcast (Mat s.c.n 512) (Scalar.ofBits .f32 0x43E00000#32))) bitsLt_fp8e4m3_f32) (cast_mat1' s.c.n 512)⟩ :: M) M

/-- The sum of all the exponentials over 256. -/
def total (L : List (View.Piece (Elt F) S2x2048x512 .f32)) : FVec F S1x512 .f32 :=
  mulf (shapeCast S1x512 (multiReduction .add [0] S512 (sum8 e S a8 L) 0x00000000#32 reduces_S8x512_S512 (.inl rfl) rfl) shapeCasts_S512_S1x512)
    (broadcast S1x512 (Scalar.ofBits .f32 0x3B800000#32))

/-- The values summed against the stored exponentials `M` of the first `128 * n` keys, scaled by `c` and divided by `l`. -/
def half (n : ℕ) (h : 128 * n ≤ 2048) (x5 : Vec F S1x64x2048 .fp8e4m3) (c : F .f32) (l : FVec F S1x512 .f32)
    (M : List (View.Piece (Elt F) S2x2048x512 .fp8e4m3)) : FVec F S64x512 .f32 :=
  mulf (mulf (matmul (DotDims.plain 64 (128 * n) 512) none
      (shapeCast (ValMat n) (View.ld x5 (Rect.unit (s := S1x64x2048) ![0, 0, 0] (ValBlk n).size (inb_val n h))) (cast_val n))
      (shapeCast (Mat n 512) (View.readCov a9.view M (Rect.unit (s := S2x2048x512) ![e.val, 0, 0] (Mat1 n 512).size (inb_scr0 e n h)).toLoadRect)
        (cast_mat1 n 512))
      (constant S64x512 .f32 0x00000000#32)) (broadcast S64x512 c))
    (broadcastTo S64x512 (divf (broadcast S1x512 (Scalar.ofBits .f32 0x3F800000#32)) l) broadcasts_S1x512_S64x512)

end Head

/-! ## One query block, and the sixteen of them -/

section Body

variable (x0 : Vec F S8 .f32) (x1 x2 : Vec F S1 .f32) (x3 : Vec F S1x2048x512 .fp8e4m3) (x4 : Vec F S1x2x2048x128 .fp8e4m3)
  (x5 : Vec F S1x64x2048 .fp8e4m3)

/-- Head `h`'s scale times the keys' scale times 1/8 times log₂ e. -/
def coef (h : Fin 8) : F .f32 :=
  Scalar.mulf (Scalar.mulf (View.ld x0 (Rect.unit (s := S8) ![h.val] S1.size (inb_head h)) (Shape.Idx.first Nat.one_pos))
    (Scalar.mulf (View.ld x1 (Rect.unit (s := S1) ![0] S1.size inb_S1_S1_0) (Shape.Idx.first Nat.one_pos)) (Scalar.ofBits .f32 0x3E000000#32)))
    (Named.named κ "log2e" 0x3FB8AA3B#32)

/-- The 512 columns' factors: head `2 t + e`'s over column tile `t`. -/
def crow (e : Fin 2) : FVec F S1x512 .f32 :=
  concatenate S1x512 1 [⟨S1x128, broadcast S1x128 (coef x0 x1 ⟨0 + e.val, by omega⟩)⟩, ⟨S1x128, broadcast S1x128 (coef x0 x1 ⟨2 + e.val, by omega⟩)⟩,
    ⟨S1x128, broadcast S1x128 (coef x0 x1 ⟨4 + e.val, by omega⟩)⟩, ⟨S1x128, broadcast S1x128 (coef x0 x1 ⟨6 + e.val, by omega⟩)⟩]
    concatenates_S1x128_S1x128_S1x128_S1x128_S1x512_d1

/-- Query block `qi`'s four column tiles of `x`, one above the other. -/
def tiles (qi : Fin 16) : FVec F S512x128 .fp8e4m3 :=
  let xq : FVec F S128x512 .fp8e4m3 := shapeCast S128x512 (View.ld x3 (Rect.unit (s := S1x2048x512) ![0, 128 * qi.val, 0] S1x128x512.size (inb_x qi)))
    shapeCasts_S1x128x512_S128x512
  concatenate S512x128 0 [⟨S128x128, extractStridedSlice S128x128 ![0, 0] xq slices_S128x512_o0_0_S128x128⟩,
    ⟨S128x128, extractStridedSlice S128x128 ![0, 128] xq slices_S128x512_o0_128_S128x128⟩,
    ⟨S128x128, extractStridedSlice S128x128 ![0, 256] xq slices_S128x512_o0_256_S128x128⟩,
    ⟨S128x128, extractStridedSlice S128x128 ![0, 384] xq slices_S128x512_o0_384_S128x128⟩]
    concatenates_S128x128_S128x128_S128x128_S128x128_S512x128_d0

/-- A chunk's scores, before any mask. -/
def score (e : Fin 2) (xs : FVec F S512x128 .fp8e4m3) (c : Chunk) : FVec F (Mat c.n 512) .f32 :=
  mulf (matmul (DotDims.transposedRhs (128 * c.n) 128 512) none
      (shapeCast (Mat c.n 128) (View.ld x4 (Rect.unit (s := S1x2x2048x128) ![0, e.val, c.lo, 0] (KeyBlk c.n).size (inb_key e c))) (cast_key c.n))
      xs (constant (Mat c.n 512) .f32 0x00000000#32))
    (broadcastTo (Mat c.n 512) (crow x0 x1 e) (bcast_row c.n))

/-- Query block `qi`'s chunks with their scores; the block's own keys are masked. -/
def scored (qi : Fin 16) (e : Fin 2) : List (Scored F) :=
  (chunks qi).map (fun c => ⟨c, score x0 x1 x4 e (tiles x3 qi) c⟩) ++
    [⟨diag qi, select k0_pay6 (score x0 x1 x4 e (tiles x3 qi) (diag qi)) (broadcast S128x512 (Scalar.ofBits .f32 0xFF800000#32))⟩]

/-- What the three buffers written piece by piece hold: the score scratch, the exponentials' scratch and the output. -/
structure State (F : FTy → Type) where
  L : List (View.Piece (Elt F) S2x2048x512 .f32)
  M : List (View.Piece (Elt F) S2x2048x512 .fp8e4m3)
  O : List (View.Piece (Elt F) S1x2048x512 .bf16)

variable (a8 : Memref sig .tc .vmem S2x2048x512 .f32) (a9 : Memref sig .tc .vmem S2x2048x512 .fp8e4m3)

/-- The score scratch after head `e` of the pair. -/
def stL (qi : Fin 16) (e : Fin 2) (L : List (View.Piece (Elt F) S2x2048x512 .f32)) : List (View.Piece (Elt F) S2x2048x512 .f32) :=
  scoreStores e (scored x0 x1 x3 x4 qi e) L

/-- The exponentials' scratch after head `e` of the pair, the score scratch being `L` by then. -/
def stM (qi : Fin 16) (e : Fin 2) (L : List (View.Piece (Elt F) S2x2048x512 .f32)) (M : List (View.Piece (Elt F) S2x2048x512 .fp8e4m3)) :
    List (View.Piece (Elt F) S2x2048x512 .fp8e4m3) :=
  codeStores e (scored x0 x1 x3 x4 qi e) a8 L M

/-- Head `e` of the pair's 64 rows of output, over the 512 columns. -/
def stHalf (qi : Fin 16) (e : Fin 2) (L : List (View.Piece (Elt F) S2x2048x512 .f32)) (M : List (View.Piece (Elt F) S2x2048x512 .fp8e4m3)) :
    FVec F S64x512 .f32 :=
  half e a9 (qi.val + 1) (by omega) x5 (Scalar.mulf (Scalar.ofBits .f32 0x3B800000#32)
    (View.ld x2 (Rect.unit (s := S1) ![0] S1.size inb_S1_S1_0) (Shape.Idx.first Nat.one_pos))) (total e (scored x0 x1 x3 x4 qi e) a8 L) M

/-- Column tile `t` of the pair's output, turned to rows of queries. -/
def outTile (o : FVec F S128x512 .f32) (t : Fin 4) : FVec F S1x128x128 .bf16 :=
  shapeCast S1x128x128 (truncf .bf16 (transpose S128x128 [1, 0] (extractStridedSlice S128x128 ![0, 128 * t.val] o (slices_tile t))
    transposes_S128x128_p1_0_S128x128) bitsLt_bf16_f32) shapeCasts_S128x128_S1x128x128

/-- The output's rectangle of query block `qi` and column tile `t`. -/
abbrev outRect (qi : Fin 16) (t : Fin 4) : Rect S1x2048x512 :=
  Rect.unit ![0, 128 * qi.val, 128 * t.val] S1x128x128.size (inb_out qi t)

/-- The output stores of a query block. -/
def outStores (qi : Fin 16) (o : FVec F S128x512 .f32) (O : List (View.Piece (Elt F) S1x2048x512 .bf16)) : List (View.Piece (Elt F) S1x2048x512 .bf16) :=
  ⟨outRect qi 3, outTile o 3⟩ :: ⟨outRect qi 2, outTile o 2⟩ :: ⟨outRect qi 1, outTile o 1⟩ :: ⟨outRect qi 0, outTile o 0⟩ :: O

/-- One query block. -/
def stage (qi : Fin 16) (s : State F) : State F :=
  let L0 := stL x0 x1 x3 x4 qi 0 s.L
  let M0 := stM x0 x1 x3 x4 a8 qi 0 L0 s.M
  let L1 := stL x0 x1 x3 x4 qi 1 L0
  let M1 := stM x0 x1 x3 x4 a8 qi 1 L1 M0
  ⟨L1, M1, outStores qi (concatenate S128x512 0 [⟨S64x512, stHalf x0 x1 x2 x3 x4 x5 a8 a9 qi 0 L0 M0⟩,
    ⟨S64x512, stHalf x0 x1 x2 x3 x4 x5 a8 a9 qi 1 L1 M1⟩] concatenates_S64x512_S64x512_S128x512_d0) s.O⟩

/-- The first `n` query blocks. -/
def run : (n : ℕ) → n ≤ 16 → State F
  | 0, _ => ⟨[], [], []⟩
  | n + 1, h => stage x0 x1 x2 x3 x4 x5 a8 a9 ⟨n, h⟩ (run n (Nat.le_of_succ_le h))

end Body

end Cert.Attn

end
-- ==== Proof.Spec.lean ====
module

public import Idealize.ShloMosaic.PureOps.Ideal.Laws
public import Mathlib.Analysis.SpecialFunctions.Pow.Real

/-! Softmax attention of one query over finitely many keys, at the extended reals: the textbook form, with the natural exponential, and the
    kernel's, in base two with the weights scaled by 256. -/

@[expose] public section

noncomputable section

namespace Cert.Attn

open Idealize.ShloMosaic
open scoped BigOperators

/-- Key `k`'s weight: the exponential of its score less the greatest score. -/
def weight (T : ℕ → EReal) (n k : ℕ) : EReal := Ideal.exp (T k - (Finset.range n).sup T)

/-- One coordinate of the attention of a query with scores `T` over `n` keys with values `v`: the weights, scaled by 256 and capped at 448, summed
    against the values, times `c`, over the weights' sum. -/
def attn (T v : ℕ → EReal) (n : ℕ) (c : EReal) : EReal :=
  (∑ k ∈ Finset.range n, v k * min (weight T n k * (256 : ℝ)) (448 : ℝ)) * c * Ideal.div 1 (∑ k ∈ Finset.range n, weight T n k)

/-- The kernel's weights: the power of two of a score less the greatest score less eight. -/
def weight2 (T : ℕ → EReal) (n k : ℕ) : EReal := Ideal.exp2 (T k - ((Finset.range n).sup T - (8 : ℝ)))

/-- The kernel's form of `attn`. -/
def attn2 (T v : ℕ → EReal) (n : ℕ) (c : EReal) : EReal :=
  (∑ k ∈ Finset.range n, v k * min (weight2 T n k) (448 : ℝ)) * c * Ideal.div 1 ((∑ k ∈ Finset.range n, weight2 T n k) * ((1 / 256 : ℝ) : EReal))

/-- The exponential is not negative. -/
theorem exp_nonneg (x : EReal) : 0 ≤ Ideal.exp x := by
  induction x with
  | bot => simp
  | top => simp
  | coe r => simpa using (Real.exp_pos r).le

/-- 1 / log 2 is positive. -/
theorem logtwo_pos : (0 : ℝ) < (Real.log 2)⁻¹ := inv_pos.mpr (Real.log_pos one_lt_two)

/-- −∞ less anything is −∞. -/
theorem bot_sub' (x : EReal) : (⊥ : EReal) - x = ⊥ := by
  rw [sub_eq_add_neg, EReal.bot_add]

/-- In base two, with both scores multiplied by log₂ e and the maximum lowered by eight, the exponential grows by 256. -/
theorem exp2_shift (s m : EReal) :
    Ideal.exp2 (s * (((Real.log 2)⁻¹ : ℝ) : EReal) - (m * (((Real.log 2)⁻¹ : ℝ) : EReal) - (8 : ℝ))) = Ideal.exp (s - m) * (256 : ℝ) := by
  have hL := logtwo_pos
  have h256 : (0 : ℝ) < 256 := by norm_num
  induction s with
  | bot => rw [EReal.bot_mul_coe_of_pos hL, bot_sub', bot_sub']; simp
  | top =>
    rw [EReal.top_mul_coe_of_pos hL]
    induction m with
    | bot => rw [EReal.bot_mul_coe_of_pos hL, bot_sub']; simp [EReal.top_mul_coe_of_pos h256]
    | top => rw [EReal.top_mul_coe_of_pos hL, EReal.top_sub_coe]; simp
    | coe m => rw [← EReal.coe_mul, ← EReal.coe_sub, EReal.top_sub_coe, EReal.top_sub_coe]; simp [EReal.top_mul_coe_of_pos h256]
  | coe s =>
    induction m with
    | bot => rw [EReal.bot_mul_coe_of_pos hL, bot_sub', ← EReal.coe_mul, EReal.coe_sub_bot, EReal.coe_sub_bot]; simp [EReal.top_mul_coe_of_pos h256]
    | top => rw [EReal.top_mul_coe_of_pos hL, EReal.top_sub_coe, ← EReal.coe_mul, sub_eq_add_neg, sub_eq_add_neg, EReal.neg_top, EReal.add_bot, EReal.add_bot]; simp
    | coe m =>
      rw [← EReal.coe_mul, ← EReal.coe_mul, ← EReal.coe_sub, ← EReal.coe_sub, ← EReal.coe_sub, Ideal.exp2_coe, Ideal.exp_coe, ← EReal.coe_mul]
      congr 1
      have h2 : Real.log 2 ≠ 0 := (Real.log_pos one_lt_two).ne'
      show (2 : ℝ) ^ (s * (Real.log 2)⁻¹ - (m * (Real.log 2)⁻¹ - 8)) = _
      have h8 : (256 : ℝ) = (2 : ℝ) ^ (8 : ℝ) := by norm_num
      rw [h8, show s * (Real.log 2)⁻¹ - (m * (Real.log 2)⁻¹ - 8) = (s - m) * (Real.log 2)⁻¹ + 8 by ring, Real.rpow_add two_pos]
      congr 1
      rw [Real.rpow_def_of_pos two_pos]
      congr 1
      field_simp

/-- A positive real factor goes through a maximum. -/
theorem sup_mul_coe (T : ℕ → EReal) (n : ℕ) {L : ℝ} (hL : 0 < L) :
    (Finset.range n).sup (fun k => T k * (L : EReal)) = (Finset.range n).sup T * (L : EReal) := by
  refine (Finset.comp_sup_eq_sup_comp_of_is_total (g := fun x : EReal => x * (L : EReal)) (fun a b h => ?_) ?_).symm
  · exact mul_le_mul_of_nonneg_right h (by exact_mod_cast hL.le)
  · exact EReal.bot_mul_coe_of_pos hL

/-- A factor goes through a sum of nonnegative terms. -/
theorem sum_mul_nonneg (s : Finset ℕ) (f : ℕ → EReal) (hf : ∀ k, 0 ≤ f k) (c : EReal) : (∑ k ∈ s, f k) * c = ∑ k ∈ s, f k * c := by
  induction s using Finset.induction_on with
  | empty => simp
  | insert a s ha ih =>
    rw [Finset.sum_insert ha, Finset.sum_insert ha, EReal.right_distrib_of_nonneg (hf a) (Finset.sum_nonneg fun k _ => hf k), ih]

/-- The kernel's form agrees with the textbook's when its scores are log₂ e times the textbook's. -/
theorem attn2_eq (T T' v : ℕ → EReal) (n : ℕ) (c : EReal) (h : ∀ k, k < n → T' k = T k * (((Real.log 2)⁻¹ : ℝ) : EReal)) :
    attn2 T' v n c = attn T v n c := by
  have hsup : (Finset.range n).sup T' = (Finset.range n).sup T * (((Real.log 2)⁻¹ : ℝ) : EReal) := by
    rw [← sup_mul_coe T n logtwo_pos]
    exact Finset.sup_congr rfl fun k hk => h k (Finset.mem_range.mp hk)
  have hw : ∀ k ∈ Finset.range n, weight2 T' n k = weight T n k * (256 : ℝ) := fun k hk => by
    unfold weight2 weight
    rw [hsup, h k (Finset.mem_range.mp hk), exp2_shift]
  have hl : (∑ k ∈ Finset.range n, weight2 T' n k) * ((1 / 256 : ℝ) : EReal) = ∑ k ∈ Finset.range n, weight T n k := by
    rw [Finset.sum_congr rfl hw, sum_mul_nonneg _ (fun k => weight T n k * (256 : ℝ))
      fun k => mul_nonneg (exp_nonneg _) (by exact_mod_cast (by norm_num : (0 : ℝ) ≤ 256))]
    refine Finset.sum_congr rfl fun k _ => ?_
    rw [mul_assoc, ← EReal.coe_mul]
    norm_num
  unfold attn2 attn
  rw [hl]
  exact congrArg (fun x => x * c * _) (Finset.sum_congr rfl fun k hk => by rw [hw k hk])

/-- Keys whose score is minus infinity change nothing. -/
theorem attn_extend (T v : ℕ → EReal) (n N : ℕ) (hn : n ≤ N) (c : EReal) (h : ∀ k, n ≤ k → k < N → T k = ⊥) : attn T v n c = attn T v N c := by
  have hsup : (Finset.range n).sup T = (Finset.range N).sup T := by
    refine le_antisymm (Finset.sup_mono (Finset.range_mono hn)) (Finset.sup_le fun k hk => ?_)
    by_cases hk' : k < n
    · exact Finset.le_sup (Finset.mem_range.mpr hk')
    · rw [h k (not_lt.mp hk') (Finset.mem_range.mp hk)]; exact bot_le
  have hw : ∀ k, weight T n k = weight T N k := fun k => by unfold weight; rw [hsup]
  have h0 : ∀ k ∈ Finset.range N, k ∉ Finset.range n → weight T N k = 0 := fun k hk hk' => by
    unfold weight
    rw [h k (not_lt.mp fun h => hk' (Finset.mem_range.mpr h)) (Finset.mem_range.mp hk), bot_sub']
    rfl
  unfold attn
  simp only [hw]
  rw [Finset.sum_subset (Finset.range_mono hn) h0, Finset.sum_subset (Finset.range_mono hn) (f := fun k => v k * min (weight T N k * (256 : ℝ)) (448 : ℝ))]
  intro k hk hk'
  have h448 : (0 : EReal) ≤ (448 : ℝ) := by exact_mod_cast (by norm_num : (0 : ℝ) ≤ 448)
  rw [h0 k hk hk', zero_mul, min_eq_left h448, mul_zero]

end Cert.Attn

end
-- ==== Proof.Head.lean ====
module

public import proofs.«01_k».proof.Proof.Stages
public import proofs.«01_k».proof.Proof.Spec
public import Idealize.ShloMosaic.Lib.ValueLayout
public import Idealize.ShloMosaic.Lib.Pipeline.CanonAppend
public import Idealize.ShloMosaic.Lib.Pipeline.ReadBack
public import Idealize.ShloMosaic.Lib.IdealHost

/-! One head of a pair at the extended reals: the chunks' running maximum, running sum and stored weights are those of the whole range of keys, so that
    the head's scaled output is `attn2`. -/

@[expose] public section

set_option maxRecDepth 16384

noncomputable section

namespace Cert.Attn

open Idealize.ShloMosaic Idealize.ShloMosaic.ValueIdx Cert.KernelIdeal Cert.KernelIdeal.Gen
open scoped BigOperators

/-! ## The constants -/

/-- This word is −∞. -/
theorem bits_bot : Ideal.ofBits .f32 0xFF800000#32 = ⊥ := by simp [Ideal.ofBits, Ideal.ieee]

/-- This word is 8. -/
theorem bits_eight : Ideal.ofBits .f32 0x41000000#32 = ((8 : ℝ) : EReal) := by
  simp [Ideal.ofBits, Ideal.ieee, -EReal.coe_mul]; norm_num

/-- This word is 256. -/
theorem bits_256 : Ideal.ofBits .f32 0x43800000#32 = ((256 : ℝ) : EReal) := by
  simp [Ideal.ofBits, Ideal.ieee, -EReal.coe_mul]; norm_num

/-- This word is 448. -/
theorem bits_448 : Ideal.ofBits .f32 0x43E00000#32 = ((448 : ℝ) : EReal) := by
  simp [Ideal.ofBits, Ideal.ieee, -EReal.coe_mul]; norm_num

/-- This word is 1/256. -/
theorem bits_inv256 : Ideal.ofBits .f32 0x3B800000#32 = ((1 / 256 : ℝ) : EReal) := by
  simp [Ideal.ofBits, Ideal.ieee, -EReal.coe_mul]; norm_num

/-! ## Lists of consecutive chunks -/

/-- The chunks follow one another from key `lo` to key `hi`. -/
def Tiled : List (Scored Ideal) → ℕ → ℕ → Prop
  | [], lo, hi => lo = hi
  | s :: S, lo, hi => s.c.lo = lo ∧ Tiled S (lo + 128 * s.c.n) hi

/-- A tiled range does not run backwards. -/
theorem Tiled.le : ∀ {S : List (Scored Ideal)} {lo hi : ℕ}, Tiled S lo hi → lo ≤ hi
  | [], _, _, h => le_of_eq h
  | s :: S, lo, hi, h => le_trans (Nat.le_add_right _ _) (Tiled.le h.2)

/-- Every key of the range lies in one of the chunks. -/
theorem Tiled.mem : ∀ {S : List (Scored Ideal)} {lo hi : ℕ}, Tiled S lo hi → ∀ k, lo ≤ k → k < hi → ∃ s ∈ S, s.c.lo ≤ k ∧ k < s.c.lo + 128 * s.c.n
  | [], lo, hi, h, k, h1, h2 => by have : lo = hi := h; omega
  | s :: S, lo, hi, h, k, h1, h2 => by
    by_cases hk : k < lo + 128 * s.c.n
    · exact ⟨s, List.mem_cons_self .., by rw [h.1]; exact ⟨h1, hk⟩⟩
    · obtain ⟨r, hr, hkr⟩ := Tiled.mem h.2 k (by omega) h2
      exact ⟨r, List.mem_cons_of_mem _ hr, hkr⟩

/-- A chunk's end is at most the range's. -/
theorem Tiled.end_le : ∀ {S : List (Scored Ideal)} {lo hi : ℕ}, Tiled S lo hi → ∀ s ∈ S, s.c.lo + 128 * s.c.n ≤ hi
  | [], _, _, _, s, hs => by simp at hs
  | r :: S, lo, hi, h, s, hs => by
    rcases List.mem_cons.mp hs with rfl | hs
    · rw [h.1]; exact h.2.le
    · exact h.2.end_le s hs

/-- The scores of the chunks are `T`. -/
def Scores (S : List (Scored Ideal)) (T : Fin 512 → ℕ → EReal) : Prop :=
  ∀ s ∈ S, ∀ (a : Fin (128 * s.c.n)) (col : Fin 512), s.sc (ix2 a col) = T col (s.c.lo + a.val)

/-! ## Maxima and sums in groups of eight -/

/-- Row `a` of a matrix is row `a % 8` of group `a / 8`. -/
theorem fold_apply {n : ℕ} {α : Type} (x : (Mat n 512).Idx → α) (k : Fin (16 * n)) (i : Fin 8) (col : Fin 512) :
    shapeCast (Fold n 512) x (cast_fold n 512) (ix3 k i col) = x (ix2 ⟨8 * k.val + i.val, by omega⟩ col) :=
  shapeCast_apply x _ _ _ (by
    rw [Shape.rowMajor_val_three, Shape.rowMajor_val_two]
    show (8 * k.val + i.val) * 512 + col.val = (k.val * 8 + i.val) * 512 + col.val
    ring)

/-- The index of an entry of a group. -/
theorem lift_fold (n : ℕ) (i : Fin 8) (col : Fin 512) (k : Fin (16 * n)) : (red_fold n).lift (ix2 i col) k = ix3 k i col := by
  funext a; apply Fin.ext
  match a with
  | ⟨0, _⟩ => rfl
  | ⟨1, _⟩ => rfl
  | ⟨2, _⟩ => rfl

/-- The index of one of the eight group rows. -/
theorem lift_last (col : Fin 512) (i : Fin 8) : reduces_S8x512_S512.lift (ix1 col) i = ix2 i col := by
  funext a; apply Fin.ext
  match a with
  | ⟨0, _⟩ => rfl
  | ⟨1, _⟩ => rfl

/-- The fold of `max` from −∞ is the supremum. -/
theorem fold_max_sup {ι : Type} (s : Finset ι) (f : ι → EReal) : s.fold max ⊥ f = s.sup f := rfl

/-- The greatest of a group maximum's eight rows is the greatest of all the rows. -/
theorem group_max {n : ℕ} (x : FVec Ideal (Mat n 512) .f32) (col : Fin 512) (f : ℕ → EReal) (hf : ∀ a : Fin (128 * n), x (ix2 a col) = f a.val) :
    (Finset.univ.sup fun i : Fin 8 => multiReduction .maximumf [0] S8x512 (shapeCast (Fold n 512) x (cast_fold n 512)) 0xFF800000#32
      (red_fold n) (.inl rfl) rfl (ix2 i col)) = (Finset.range (128 * n)).sup f := by
  have key : ∀ i : Fin 8, multiReduction .maximumf [0] S8x512 (shapeCast (Fold n 512) x (cast_fold n 512)) 0xFF800000#32
      (red_fold n) (.inl rfl) rfl (ix2 i col) = Finset.univ.sup fun k : Fin (16 * n) => f (8 * k.val + i.val) := by
    intro i
    refine (Ideal.multiReduction_maximumf_single (φ := .f32) _ _ _ _ _ _).trans ?_
    show Finset.fold max (Ideal.ofBits .f32 0xFF800000#32) _ _ = _
    rw [bits_bot, fold_max_sup]
    refine Finset.sup_congr rfl fun (k : Fin (16 * n)) _ => ?_
    show shapeCast (Fold n 512) x (cast_fold n 512) ((red_fold n).lift (ix2 i col) k) = _
    rw [lift_fold, fold_apply, hf]
  simp only [key]
  apply le_antisymm
  · refine Finset.sup_le fun i _ => Finset.sup_le fun k _ => ?_
    exact Finset.le_sup (f := f) (Finset.mem_range.mpr (by omega))
  · refine Finset.sup_le fun a ha => ?_
    have ha := Finset.mem_range.mp ha
    refine le_trans ?_ (Finset.le_sup (Finset.mem_univ (⟨a % 8, by omega⟩ : Fin 8)))
    refine le_trans (le_of_eq ?_) (Finset.le_sup (Finset.mem_univ (⟨a / 8, by omega⟩ : Fin (16 * n))))
    show f a = f (8 * (a / 8) + a % 8)
    congr 1; omega

/-- The sum of a group sum's eight rows is the sum of all the rows. -/
theorem group_sum {n : ℕ} (x : FVec Ideal (Mat n 512) .f32) (col : Fin 512) (f : ℕ → EReal) (hf : ∀ a : Fin (128 * n), x (ix2 a col) = f a.val) :
    (∑ i : Fin 8, multiReduction .add [0] S8x512 (shapeCast (Fold n 512) x (cast_fold n 512)) 0x00000000#32
      (red_fold n) (.inl rfl) rfl (ix2 i col)) = ∑ a ∈ Finset.range (128 * n), f a := by
  have key : ∀ i : Fin 8, multiReduction .add [0] S8x512 (shapeCast (Fold n 512) x (cast_fold n 512)) 0x00000000#32
      (red_fold n) (.inl rfl) rfl (ix2 i col) = ∑ k : Fin (16 * n), f (8 * k.val + i.val) := by
    intro i
    refine (Ideal.multiReduction_add_single (φ := .f32) _ _ _ _ _ _).trans ?_
    refine Finset.sum_congr rfl fun (k : Fin (16 * n)) _ => ?_
    show shapeCast (Fold n 512) x (cast_fold n 512) ((red_fold n).lift (ix2 i col) k) = _
    rw [lift_fold, fold_apply, hf]
  simp only [key]
  rw [Finset.sum_comm, ← Fintype.sum_prod_type' (f := fun (k : Fin (16 * n)) (i : Fin 8) => f (8 * k.val + i.val)),
    show 128 * n = 16 * n * 8 by ring, Finset.sum_range]
  refine Fintype.sum_equiv finProdFinEquiv _ _ fun p => ?_
  show f (8 * p.1.val + p.2.val) = f (p.2.val + 8 * p.1.val)
  rw [Nat.add_comm]

/-- The greatest of `f` over the chunks' keys, run from `m`. -/
theorem max_run (col : Fin 512) (f : ℕ → EReal) : ∀ (S : List (Scored Ideal)) (lo hi : ℕ) (m : FVec Ideal S8x512 .f32), Tiled S lo hi →
    (∀ s ∈ S, ∀ a : Fin (128 * s.c.n), s.sc (ix2 a col) = f (s.c.lo + a.val)) →
    (Finset.univ.sup fun i : Fin 8 => (S.foldl (fun m (s : Scored Ideal) => maximumf m (multiReduction .maximumf [0] S8x512
      (shapeCast (Fold s.c.n 512) s.sc (cast_fold s.c.n 512)) 0xFF800000#32 (red_fold s.c.n) (.inl rfl) rfl)) m) (ix2 i col))
      = max (Finset.univ.sup fun i : Fin 8 => m (ix2 i col)) ((Finset.Ico lo hi).sup f)
  | [], lo, hi, m, ht, _ => by
    have : lo = hi := ht
    subst this
    simp
  | s :: S, lo, hi, m, ht, hf => by
    rw [List.foldl_cons, max_run col f S _ _ _ ht.2 fun r hr => hf r (List.mem_cons_of_mem _ hr)]
    have hs := hf s (List.mem_cons_self ..)
    have e1 : (Finset.univ.sup fun i : Fin 8 => maximumf m (multiReduction .maximumf [0] S8x512
        (shapeCast (Fold s.c.n 512) s.sc (cast_fold s.c.n 512)) 0xFF800000#32 (red_fold s.c.n) (.inl rfl) rfl) (ix2 i col))
        = max (Finset.univ.sup fun i : Fin 8 => m (ix2 i col)) ((Finset.Ico lo (lo + 128 * s.c.n)).sup f) := by
      have e2 : (Finset.Ico lo (lo + 128 * s.c.n)).sup f = (Finset.range (128 * s.c.n)).sup fun a => f (lo + a) := by
        apply le_antisymm
        · refine Finset.sup_le fun k hk => ?_
          have hk := Finset.mem_Ico.mp hk
          have := Finset.le_sup (f := fun a => f (lo + a)) (Finset.mem_range.mpr (show k - lo < 128 * s.c.n by omega))
          simpa [Nat.add_sub_cancel' hk.1] using this
        · refine Finset.sup_le fun a ha => ?_
          have ha := Finset.mem_range.mp ha
          exact Finset.le_sup (f := f) (Finset.mem_Ico.mpr (by omega))
      rw [e2, ← group_max s.sc col (fun a => f (lo + a)) (fun a => by rw [hs a, ht.1]), ← Finset.sup_sup]
      refine Finset.sup_congr rfl fun i _ => ?_
      rfl
    have e3 := ht.2.le
    rw [e1, max_assoc, ← Finset.sup_union, Finset.Ico_union_Ico_eq_Ico (Nat.le_add_right _ _) e3]

/-- The sum of `f` over the chunks' keys, run from `m`. -/
theorem sum_run (col : Fin 512) (f : ℕ → EReal) (g : (s : Scored Ideal) → FVec Ideal (Mat s.c.n 512) .f32) :
    ∀ (S : List (Scored Ideal)) (lo hi : ℕ) (m : FVec Ideal S8x512 .f32), Tiled S lo hi →
    (∀ s ∈ S, ∀ a : Fin (128 * s.c.n), g s (ix2 a col) = f (s.c.lo + a.val)) →
    (∑ i : Fin 8, (S.foldl (fun m (s : Scored Ideal) => addf m (multiReduction .add [0] S8x512
      (shapeCast (Fold s.c.n 512) (g s) (cast_fold s.c.n 512)) 0x00000000#32 (red_fold s.c.n) (.inl rfl) rfl)) m) (ix2 i col))
      = (∑ i : Fin 8, m (ix2 i col)) + ∑ k ∈ Finset.Ico lo hi, f k
  | [], lo, hi, m, ht, _ => by
    have : lo = hi := ht
    subst this
    simp
  | s :: S, lo, hi, m, ht, hf => by
    rw [List.foldl_cons, sum_run col f g S _ _ _ ht.2 fun r hr => hf r (List.mem_cons_of_mem _ hr)]
    have hs := hf s (List.mem_cons_self ..)
    have e1 : (∑ i : Fin 8, addf m (multiReduction .add [0] S8x512
        (shapeCast (Fold s.c.n 512) (g s) (cast_fold s.c.n 512)) 0x00000000#32 (red_fold s.c.n) (.inl rfl) rfl) (ix2 i col))
        = (∑ i : Fin 8, m (ix2 i col)) + ∑ k ∈ Finset.Ico lo (lo + 128 * s.c.n), f k := by
      rw [Finset.sum_Ico_eq_sum_range, Nat.add_sub_cancel_left,
        ← group_sum (g s) col (fun a => f (lo + a)) (fun a => by rw [hs a, ht.1]), ← Finset.sum_add_distrib]
      rfl
    rw [e1, add_assoc, Finset.sum_Ico_consecutive _ (Nat.le_add_right _ _) ht.2.le]

/-! ## Chunks stored and read back -/

/-- One store per chunk over the stores `L`. -/
def stores {η : EltTy} (e : Fin 2) (g : (s : Scored Ideal) → (Mat s.c.n 512).Idx → Elt Ideal η) (S : List (Scored Ideal))
    (L : List (View.Piece (Elt Ideal) S2x2048x512 η)) : List (View.Piece (Elt Ideal) S2x2048x512 η) :=
  S.foldl (fun L (s : Scored Ideal) => ⟨scrRect e s.c, shapeCast (Mat1 s.c.n 512) (g s) (cast_mat1' s.c.n 512)⟩ :: L) L

/-- The stores of a run of chunks, one list after the other. -/
theorem stores_split {η : EltTy} (e : Fin 2) (g : (s : Scored Ideal) → (Mat s.c.n 512).Idx → Elt Ideal η) : ∀ (S : List (Scored Ideal))
    (L : List (View.Piece (Elt Ideal) S2x2048x512 η)), stores e g S L
      = (S.map fun (s : Scored Ideal) => (⟨scrRect e s.c, shapeCast (Mat1 s.c.n 512) (g s) (cast_mat1' s.c.n 512)⟩ : View.Piece (Elt Ideal) S2x2048x512 η)).reverse ++ L
  | [], L => rfl
  | s :: S, L => by
    rw [List.map_cons, List.reverse_cons, List.append_assoc]
    exact stores_split e g S _

/-- What the chunks' stores leave, read over a range of their keys. -/
theorem stores_read {η : EltTy} (e : Fin 2) (g : (s : Scored Ideal) → (Mat s.c.n 512).Idx → Elt Ideal η) (S : List (Scored Ideal))
    (L : List (View.Piece (Elt Ideal) S2x2048x512 η)) (a8 : Memref sig .tc .vmem S2x2048x512 η) (hi : ℕ) (ht : Tiled S 0 hi)
    (G : Fin 512 → ℕ → Elt Ideal η) (hG : ∀ s ∈ S, ∀ (a : Fin (128 * s.c.n)) (col : Fin 512), g s (ix2 a col) = G col (s.c.lo + a.val))
    (lo n : ℕ) (hn : lo + 128 * n ≤ hi) (inb : ∀ a, (![e.val, lo, 0] : Fin 3 → ℕ) a + (Mat1 n 512).size a ≤ S2x2048x512.size a)
    (a : Fin (128 * n)) (col : Fin 512) :
    shapeCast (Mat n 512) (View.readCov a8.view (stores e g S L) (Rect.unit (s := S2x2048x512) ![e.val, lo, 0] (Mat1 n 512).size inb).toLoadRect)
      (cast_mat1 n 512) (ix2 a col) = G col (lo + a.val) := by
  have ha := a.isLt
  rw [shapeCast_1ab_ab_apply, View.readCov_eq_canon', stores_split]
  show View.canon _ _ = _
  refine (View.canon_append_of_pieces (fun y : S2x2048x512.Idx => G (y 2) (y 1).val) L _ ?_ _ ?_).trans ?_
  · intro p hp x
    obtain ⟨s, hs, rfl⟩ := List.mem_map.mp (List.mem_reverse.mp hp)
    have hx : x = (ix3 (x 0) (x 1) (x 2) : (Mat1 s.c.n 512).Idx) := eq_ix3 (n0 := 1) (n1 := 128 * s.c.n) (n2 := 512) x
    have h1 : ((scrRect e s.c).emb x 1).val = s.c.lo + (x 1).val := by
      show s.c.lo + 1 * (x 1).val = _
      rw [Nat.one_mul]
    have h2 : ((scrRect e s.c).emb x 2) = (x 2 : Fin 512) := by
      apply Fin.ext
      show 0 + 1 * (x 2).val = _
      omega
    show shapeCast (Mat1 s.c.n 512) (g s) (cast_mat1' s.c.n 512) x = G ((scrRect e s.c).emb x 2) ((scrRect e s.c).emb x 1).val
    rw [h1, h2, ← hG s hs (x 1) (x 2)]
    conv_lhs => rw [hx]
    exact shapeCast_ab_1ab_apply (a := 128 * s.c.n) (b := 512) (g s) _ (x 0) (x 1) (x 2)
  · obtain ⟨s, hs, h1, h2⟩ := ht.mem (lo + a.val) (Nat.zero_le _) (by omega)
    refine ⟨_, List.mem_reverse.mpr (List.mem_map.mpr ⟨s, hs, rfl⟩), ?_⟩
    rw [Rect.mem_set_unit]
    have := col.isLt
    intro b
    match b with
    | ⟨0, _⟩ => show e.val ≤ e.val + 1 * 0 ∧ e.val + 1 * 0 < e.val + 1; omega
    | ⟨1, _⟩ => show s.c.lo ≤ lo + 1 * a.val ∧ lo + 1 * a.val < s.c.lo + 128 * s.c.n; omega
    | ⟨2, _⟩ => show 0 ≤ 0 + 1 * col.val ∧ 0 + 1 * col.val < 0 + 512; omega
  · show G ⟨0 + 1 * col.val, _⟩ (lo + 1 * a.val) = _
    congr 1
    · apply Fin.ext; show 0 + 1 * col.val = col.val; omega
    · omega

/-! ## The head -/

section Head

variable (e : Fin 2) (S : List (Scored Ideal)) (T : Fin 512 → ℕ → EReal) (n : ℕ) (ht : Tiled S 0 (128 * n)) (hT : Scores S T)
  (a8 : Memref sig .tc .vmem S2x2048x512 .f32) (a9 : Memref sig .tc .vmem S2x2048x512 .fp8e4m3)
  (L : List (View.Piece (Elt Ideal) S2x2048x512 .f32)) (M : List (View.Piece (Elt Ideal) S2x2048x512 .fp8e4m3))

include ht hT

/-- The subtracted row: a column's greatest score less eight. -/
theorem shift_apply (u : Fin 1) (col : Fin 512) : shift S (ix2 u col) = (Finset.range (128 * n)).sup (T col) - ((8 : ℝ) : EReal) := by
  unfold shift
  show shapeCast S1x512 _ _ _ - Ideal.ofBits .f32 0x41000000#32 = _
  rw [bits_eight, shapeCast_a_1a_apply]
  congr 1
  refine (Ideal.multiReduction_maximumf_single (φ := .f32) _ _ _ _ _ _).trans ?_
  show Finset.fold max (Ideal.ofBits .f32 0xFF800000#32) _ _ = _
  rw [bits_bot, fold_max_sup]
  have e1 := max_run col (T col) S 0 (128 * n) (broadcast S8x512 (Scalar.ofBits .f32 0xFF800000#32)) ht fun s hs a => hT s hs a col
  rw [← Finset.range_eq_Ico] at e1
  refine Eq.trans ?_ (e1.trans ?_)
  · refine Finset.sup_congr rfl fun (i : Fin 8) _ => ?_
    show max8 S (reduces_S8x512_S512.lift (ix1 col) i) = _
    rw [lift_last]; rfl
  · show max (Finset.univ.sup fun _ : Fin 8 => Ideal.ofBits .f32 0xFF800000#32) _ = _
    rw [bits_bot]; simp

/-- The exponentials, of the scores read back, are the weights. -/
theorem expo_apply (s : Scored Ideal) (hs : s ∈ S) (a : Fin (128 * s.c.n)) (col : Fin 512) :
    expo e S a8 (scoreStores e S L) s.c (ix2 a col) = weight2 (T col) (128 * n) (s.c.lo + a.val) := by
  unfold expo weight2
  show Ideal.exp2 (shapeCast (Mat s.c.n 512) _ _ (ix2 a col) - broadcastTo (Mat s.c.n 512) (shift S) _ (ix2 a col)) = _
  rw [broadcastTo_1b_ab_apply, shift_apply S T n ht hT]
  congr 2
  exact stores_read (η := .f32) e (fun s => s.sc) S L a8 _ ht T hT s.c.lo s.c.n (ht.end_le s hs) _ a col

/-- The weights' sum of a column, scaled back by 256. -/
theorem total_apply (u : Fin 1) (col : Fin 512) :
    total e S a8 (scoreStores e S L) (ix2 u col) = (∑ k ∈ Finset.range (128 * n), weight2 (T col) (128 * n) k) * ((1 / 256 : ℝ) : EReal) := by
  unfold total
  show shapeCast S1x512 _ _ _ * Ideal.ofBits .f32 0x3B800000#32 = _
  rw [bits_inv256, shapeCast_a_1a_apply]
  congr 1
  refine (Ideal.multiReduction_add_single (φ := .f32) _ _ _ _ _ _).trans ?_
  have e1 := sum_run col (weight2 (T col) (128 * n)) (fun s => expo e S a8 (scoreStores e S L) s.c) S 0 (128 * n)
    (broadcast S8x512 (Scalar.ofBits .f32 0x00000000#32)) ht fun s hs a => expo_apply e S T n ht hT a8 L s hs a col
  rw [← Finset.range_eq_Ico] at e1
  refine Eq.trans ?_ (e1.trans ?_)
  · refine Finset.sum_congr rfl fun (i : Fin 8) _ => ?_
    show sum8 e S a8 (scoreStores e S L) (reduces_S8x512_S512.lift (ix1 col) i) = _
    rw [lift_last]; rfl
  · show (∑ _ : Fin 8, Ideal.ofBits .f32 0x00000000#32) + _ = _
    rw [Ideal.ofBits_zero_f32]; simp

/-- The head's scaled output over its divisor is `attn2`, whatever the two scratch buffers held before. -/
theorem half_apply (hn : 128 * n ≤ 2048) (x5 : Vec Ideal S1x64x2048 .fp8e4m3) (c : EReal) (v : ℕ → EReal) (d : Fin 64) (col : Fin 512)
    (hv : ∀ k : Fin 2048, x5 (ix3 (0 : Fin 1) d k) = v k.val) :
    half e a9 n hn x5 c (total e S a8 (scoreStores e S L)) (codeStores e S a8 (scoreStores e S L) M) (ix2 d col)
      = attn2 (T col) v (128 * n) c := by
  unfold half attn2
  show (matmul (F := Ideal) (DotDims.plain 64 (128 * n) 512) none _ _ _ (ix2 d col) : EReal) * c * broadcastTo S64x512 _ _ (ix2 d col) = _
  rw [broadcastTo_1b_ab_apply]
  show _ * c * Ideal.div (Ideal.ofBits .f32 0x3F800000#32) (total e S a8 (scoreStores e S L) (ix2 (0 : Fin 1) col)) = _
  rw [total_apply e S T n ht hT, Ideal.ofBits_one_f32]
  congr 2
  refine (Ideal.matmul_plain_apply none _ _ _ d col).trans ?_
  show Ideal.ofBits .f32 0x00000000#32 + _ = _
  rw [Ideal.ofBits_zero_f32, zero_add, Finset.sum_range]
  refine Finset.sum_congr rfl fun (k : Fin (128 * n)) _ => ?_
  congr 1
  · rw [shapeCast_1ab_ab_apply]
    have := k.isLt
    rw [← hv ⟨k.val, by omega⟩]
    show x5 _ = _
    congr 1
    funext a; apply Fin.ext
    match a with
    | ⟨0, _⟩ => rfl
    | ⟨1, _⟩ => show 0 + 1 * d.val = d.val; omega
    | ⟨2, _⟩ => show 0 + 1 * k.val = k.val; omega
  · refine (stores_read (η := .fp8e4m3) e (fun s => truncf .fp8e4m3 (minimumf (expo e S a8 (scoreStores e S L) s.c : FVec Ideal (Mat s.c.n 512) .f32)
      (broadcast (Mat s.c.n 512) (Scalar.ofBits .f32 0x43E00000#32))) bitsLt_fp8e4m3_f32) S M a9 (128 * n) ht
      (fun col k => min (weight2 (T col) (128 * n) k) ((448 : ℝ) : EReal)) ?_ 0 n (by omega) _ k col).trans ?_
    · intro s hs a col
      show min (expo e S a8 (scoreStores e S L) s.c (ix2 a col)) (Ideal.ofBits .f32 0x43E00000#32) = _
      rw [expo_apply e S T n ht hT a8 L s hs, bits_448]
    · show min (weight2 (T col) (128 * n) (0 + k.val)) _ = _
      rw [Nat.zero_add]

end Head

end Cert.Attn

end
-- ==== Proof.Block.lean ====
module

public import proofs.«01_k».proof.Proof.Head

/-! A grid point's output block at the extended reals: each of its entries is one coordinate of the causal attention of one query and one head. -/

@[expose] public section

set_option maxRecDepth 16384

noncomputable section

namespace Cert.Attn

open Idealize.ShloMosaic Idealize.ShloMosaic.ValueIdx Cert.KernelIdeal Cert.KernelIdeal.Gen
open scoped BigOperators

/-! ## Words -/

/-- Signed comparison of two small words is comparison of the numbers. -/
theorem sle_small (a b : ℕ) (ha : a < 2 ^ 31) (hb : b < 2 ^ 31) : (BitVec.ofNat 32 a).sle (BitVec.ofNat 32 b) = decide (a ≤ b) := by
  have h1 : (BitVec.ofNat 32 a).toInt = (a : ℤ) := by
    rw [BitVec.toInt_eq_toNat_of_lt] <;> rw [BitVec.toNat_ofNat, Nat.mod_eq_of_lt] <;> omega
  have h2 : (BitVec.ofNat 32 b).toInt = (b : ℤ) := by
    rw [BitVec.toInt_eq_toNat_of_lt] <;> rw [BitVec.toNat_ofNat, Nat.mod_eq_of_lt] <;> omega
  rw [BitVec.sle, h1, h2]
  simp

/-- The mask of a query block's own keys: key `a` is let through for column `col` unless it comes after the column's query. -/
theorem mask_apply (a : Fin 128) (col : Fin 512) : k0_pay6 (ix2 a col) = BitVec.ofBool (decide (a.val ≤ col.val % 128)) := by
  unfold k0_pay6
  show BitVec.ofBool ((iota .tc S128x512 32 [0] iota_S128x512_d0_w32 (ix2 a col)).sle
    (iota .tc S128x512 32 [1] iota_S128x512_d1_w32 (ix2 a col) &&& 127#32)) = _
  rw [iota_single_apply, iota_single_apply]
  show BitVec.ofBool ((BitVec.ofNat 32 a.val).sle (BitVec.ofNat 32 col.val &&& 127#32)) = _
  have hc := col.isLt; have ha := a.isLt
  have e : (BitVec.ofNat 32 col.val &&& 127#32) = BitVec.ofNat 32 (col.val % 128) := by
    apply BitVec.eq_of_toNat_eq
    rw [BitVec.toNat_and, BitVec.toNat_ofNat, BitVec.toNat_ofNat, BitVec.toNat_ofNat, Nat.mod_eq_of_lt (a := col.val) (by omega),
      Nat.mod_eq_of_lt (a := 127) (by omega), Nat.mod_eq_of_lt (a := col.val % 128) (by omega)]
    exact Nat.and_two_pow_sub_one_eq_mod col.val 7
  rw [e, sle_small _ _ (by omega) (by omega)]

/-- The named constant is 1 / log 2. -/
theorem log2e_eq : (Named.named κ "log2e" 0x3FB8AA3B#32 : Ideal .f32) = (((Real.log 2)⁻¹ : ℝ) : EReal) :=
  IdealRules.named_const.ideal_named_scalar _ _ _ _ rfl

/-! ## The chunks -/

/-- The chunks, with the last block after them, follow one another without gaps. -/
theorem chunksFrom_tiled (g : (c : Chunk) → Scored Ideal) (hg : ∀ c, (g c).c = c) (last : Scored Ideal) (hi : ℕ) :
    ∀ (fuel lo rem : ℕ) (h : lo + 128 * rem ≤ 2048), rem ≤ 4 * fuel → last.c.lo = lo + 128 * rem → lo + 128 * rem + 128 * last.c.n = hi →
      Tiled ((chunksFrom fuel lo rem h).map g ++ [last]) lo hi
  | 0, lo, rem, h, hr, hl, hh => by
    have : rem = 0 := by omega
    subst this
    exact ⟨hl, by show lo + 128 * last.c.n = hi; omega⟩
  | f + 1, lo, 0, h, hr, hl, hh => ⟨hl, by show lo + 128 * last.c.n = hi; omega⟩
  | f + 1, lo, r + 1, h, hr, hl, hh => by
    refine ⟨by rw [hg], ?_⟩
    have e : (g ⟨lo, min 4 (r + 1), by omega⟩).c.n = min 4 (r + 1) := by rw [hg]
    rw [e]
    exact chunksFrom_tiled g hg last hi f _ _ _ (by omega) (by omega) (by omega)

/-- Every chunk ends within the keys the chunks cover. -/
theorem chunksFrom_end : ∀ (fuel lo rem : ℕ) (h : lo + 128 * rem ≤ 2048), ∀ c ∈ chunksFrom fuel lo rem h, c.lo + 128 * c.n ≤ lo + 128 * rem
  | 0, _, _, _, c, hc => by simp [chunksFrom] at hc
  | _ + 1, _, 0, _, c, hc => by simp [chunksFrom] at hc
  | f + 1, lo, r + 1, h, c, hc => by
    rw [chunksFrom] at hc
    rcases List.mem_cons.mp hc with rfl | hc
    · show lo + 128 * min 4 (r + 1) ≤ _; omega
    · have := chunksFrom_end f _ _ _ c hc; omega

section Body

variable (x0 : Vec Ideal S8 .f32) (x1 x2 : Vec Ideal S1 .f32) (x3 : Vec Ideal S1x2048x512 .fp8e4m3) (x4 : Vec Ideal S1x2x2048x128 .fp8e4m3)
  (x5 : Vec Ideal S1x64x2048 .fp8e4m3)

/-! ## The scores -/

/-- A row of the stacked queries holds one query's 128 coordinates for two neighbouring heads. -/
theorem tiles_apply (qi : Fin 16) (col : Fin 512) (c : Fin 128) :
    tiles x3 qi (ix2 col c) = x3 (ix3 (0 : Fin 1) (⟨128 * qi.val + col.val % 128, by omega⟩ : Fin 2048) (⟨128 * (col.val / 128) + c.val, by omega⟩ : Fin 512)) := by
  unfold tiles
  have hc := col.isLt
  let xq : FVec Ideal S128x512 .fp8e4m3 := shapeCast S128x512 (View.ld x3 (Rect.unit (s := S1x2048x512) ![0, 128 * qi.val, 0] S1x128x512.size (inb_x qi)))
    shapeCasts_S1x128x512_S128x512
  refine (concatenate_ofFn_apply (t := S512x128) (s₁ := S128x128) 0 (N := 4) (fun t : Fin 4 => extractStridedSlice S128x128 ![0, 128 * t.val] xq (slices_tile t))
    concatenates_S128x128_S128x128_S128x128_S128x128_S512x128_d0 rfl 128 rfl (ix2 col c) ⟨col.val / 128, by omega⟩ rfl
    (ix2 (⟨col.val % 128, by omega⟩ : Fin 128) c) rfl ?_).trans ?_
  · intro b hb
    match b with
    | ⟨0, _⟩ => exact absurd rfl hb
    | ⟨1, _⟩ => rfl
  · rw [slice2_axis1_apply (128 * (col.val / 128)) xq _ _ c (⟨128 * (col.val / 128) + c.val, by omega⟩ : Fin 512) rfl]
    refine (shapeCast_1ab_ab_apply _ _ _ _).trans ?_
    show x3 _ = x3 _
    congr 1
    funext a; apply Fin.ext
    match a with
    | ⟨0, _⟩ => rfl
    | ⟨1, _⟩ => show 128 * qi.val + 1 * (col.val % 128) = _; rw [Nat.one_mul]
    | ⟨2, _⟩ => show 0 + 1 * (128 * (col.val / 128) + c.val) = 128 * (col.val / 128) + c.val; omega

/-- A column's score factor is its head's. -/
theorem crow_apply (e : Fin 2) (u : Fin 1) (col : Fin 512) : crow x0 x1 e (ix2 u col) = coef x0 x1 ⟨2 * (col.val / 128) + e.val, by omega⟩ := by
  unfold crow
  have hc := col.isLt
  refine (concatenate_ofFn_apply (t := S1x512) (s₁ := S1x128) 1 (N := 4) (fun t : Fin 4 => broadcast S1x128 (coef x0 x1 ⟨2 * t.val + e.val, by omega⟩))
    concatenates_S1x128_S1x128_S1x128_S1x128_S1x512_d1 rfl 128 rfl (ix2 u col) ⟨col.val / 128, by omega⟩ rfl
    (ix2 u (⟨col.val % 128, by omega⟩ : Fin 128)) rfl ?_).trans rfl
  intro b hb
  match b with
  | ⟨0, _⟩ => rfl
  | ⟨1, _⟩ => exact absurd rfl hb

/-- A head's score factor: the scales, 1/8 and log₂ e, multiplied. -/
theorem coef_eq (h : Fin 8) : coef x0 x1 h = x0 (ix1 h) * (x1 (ix1 (0 : Fin 1)) * Ideal.ofBits .f32 0x3E000000#32) * (((Real.log 2)⁻¹ : ℝ) : EReal) := by
  unfold coef
  rw [log2e_eq]
  show x0 _ * (x1 _ * _) * _ = _
  have e0 : (Rect.unit (s := S8) ![h.val] S1.size (inb_head h)).idx (Shape.Idx.first Nat.one_pos) = ix1 h := by
    funext a; apply Fin.ext
    match a with
    | ⟨0, _⟩ => show h.val + 1 * 0 = h.val; omega
  have e1 : (Rect.unit (s := S1) ![0] S1.size inb_S1_S1_0).idx (Shape.Idx.first Nat.one_pos) = ix1 (0 : Fin 1) := by
    funext a; apply Fin.ext
    match a with
    | ⟨0, _⟩ => rfl
  exact congrArg₂ (fun u v : EReal => u * (v * Ideal.ofBits .f32 0x3E000000#32) * (((Real.log 2)⁻¹ : ℝ) : EReal)) (congrArg x0 e0) (congrArg x1 e1)

/-- Query `q`'s score with key `k` in head `2 t + e`, less the factor log₂ e: −∞ for a key after the query. -/
def rowT (q : Fin 2048) (t : Fin 4) (e : Fin 2) (k : ℕ) : EReal :=
  if h : k < 2048 ∧ k ≤ q.val then
    (∑ c : Fin 128, x4 (ix4 (0 : Fin 1) e (⟨k, h.1⟩ : Fin 2048) c) * x3 (ix3 (0 : Fin 1) q (⟨128 * t.val + c.val, by omega⟩ : Fin 512)))
      * (x0 (ix1 (⟨2 * t.val + e.val, by omega⟩ : Fin 8)) * (x1 (ix1 (0 : Fin 1)) * Ideal.ofBits .f32 0x3E000000#32))
  else ⊥

/-- The scores a column of query block `qi` meets, with the factor log₂ e. -/
def colT (qi : Fin 16) (e : Fin 2) (col : Fin 512) (k : ℕ) : EReal :=
  rowT x0 x1 x3 x4 (⟨128 * qi.val + col.val % 128, by omega⟩ : Fin 2048) (⟨col.val / 128, by omega⟩ : Fin 4) e k * (((Real.log 2)⁻¹ : ℝ) : EReal)

/-- An entry of a chunk's scores, for a key not after the query. -/
theorem score_apply (qi : Fin 16) (e : Fin 2) (c : Chunk) (a : Fin (128 * c.n)) (col : Fin 512) (h : c.lo + a.val ≤ 128 * qi.val + col.val % 128) :
    score x0 x1 x4 e (tiles x3 qi) c (ix2 a col) = colT x0 x1 x3 x4 qi e col (c.lo + a.val) := by
  have := c.inb; have ha := a.isLt
  unfold score colT rowT
  rw [dif_pos ⟨by omega, h⟩]
  show (matmul (F := Ideal) (DotDims.transposedRhs (128 * c.n) 128 512) none _ _ _ (ix2 a col) : EReal) * broadcastTo (Mat c.n 512) _ _ (ix2 a col) = _
  rw [broadcastTo_1b_ab_apply, crow_apply, coef_eq, ← mul_assoc]
  congr 2
  refine (Ideal.matmul_transposedRhs_apply none _ _ _ a col).trans ?_
  show Ideal.ofBits .f32 0x00000000#32 + _ = _
  rw [Ideal.ofBits_zero_f32, zero_add]
  refine Finset.sum_congr rfl fun b _ => ?_
  rw [tiles_apply]
  congr 1
  refine (shapeCast_apply _ (cast_key c.n) (ix2 a b) (ix4 (0 : Fin 1) (0 : Fin 1) a b : (KeyBlk c.n).Idx) ?_).trans ?_
  · rw [Shape.rowMajor_val_four, Shape.rowMajor_val_two]
    show ((0 * 1 + 0) * (128 * c.n) + a.val) * 128 + b.val = a.val * 128 + b.val
    simp
  · show x4 _ = x4 _
    congr 1
    funext d; apply Fin.ext
    match d with
    | ⟨0, _⟩ => rfl
    | ⟨1, _⟩ => show e.val + 1 * 0 = e.val; omega
    | ⟨2, _⟩ => show c.lo + 1 * a.val = _; rw [Nat.one_mul]
    | ⟨3, _⟩ => show 0 + 1 * b.val = b.val; omega

/-- The scored chunks of a query block cover its keys. -/
theorem scored_tiled (qi : Fin 16) (e : Fin 2) : Tiled (scored x0 x1 x3 x4 qi e) 0 (128 * (qi.val + 1)) :=
  chunksFrom_tiled _ (fun _ => rfl) _ _ _ _ _ _ (by omega) (by show 128 * qi.val = _; omega) (by show _ + 128 * 1 = _; omega)

/-- The scored chunks hold the scores, −∞ where the mask refuses. -/
theorem scored_scores (qi : Fin 16) (e : Fin 2) : Scores (scored x0 x1 x3 x4 qi e) (colT x0 x1 x3 x4 qi e) := by
  intro s hs
  rcases List.mem_append.mp hs with hs | hs
  · obtain ⟨c, hc, rfl⟩ := List.mem_map.mp hs
    have := chunksFrom_end _ _ _ _ c hc
    intro a col
    have ha : a.val < 128 * c.n := a.isLt
    exact score_apply x0 x1 x3 x4 qi e c a col (by omega)
  · rw [List.mem_singleton.mp hs]
    intro (a : Fin 128) col
    show Scalar.select (k0_pay6 (ix2 a col)) (score x0 x1 x4 e (tiles x3 qi) (diag qi) (ix2 a col)) (Ideal.ofBits .f32 0xFF800000#32)
      = colT x0 x1 x3 x4 qi e col (128 * qi.val + a.val)
    rw [mask_apply]
    by_cases h : a.val ≤ col.val % 128
    · rw [decide_eq_true h]
      show score x0 x1 x4 e (tiles x3 qi) (diag qi) (ix2 a col) = _
      exact score_apply x0 x1 x3 x4 qi e (diag qi) a col (by show 128 * qi.val + a.val ≤ _; omega)
    · rw [decide_eq_false h]
      show Ideal.ofBits .f32 0xFF800000#32 = _
      unfold colT rowT
      rw [bits_bot, dif_neg (by rintro ⟨_, h2⟩; exact h (Nat.le_of_add_le_add_left h2))]
      exact (EReal.bot_mul_of_pos (by exact_mod_cast logtwo_pos)).symm

/-! ## One head, and one tile of the output -/

/-- Coordinate `d` of the values. -/
def vrow (d : Fin 64) (k : ℕ) : EReal := if h : k < 2048 then x5 (ix3 (0 : Fin 1) d (⟨k, h⟩ : Fin 2048)) else 0

/-- One coordinate of one head's causal attention for query `q`. -/
def entry (q : Fin 2048) (t : Fin 4) (e : Fin 2) (d : Fin 64) : EReal :=
  attn (rowT x0 x1 x3 x4 q t e) (vrow x5 d) 2048 (((1 / 256 : ℝ) : EReal) * x2 (ix1 (0 : Fin 1)))

variable (a8 : Memref sig .tc .vmem S2x2048x512 .f32) (a9 : Memref sig .tc .vmem S2x2048x512 .fp8e4m3)

/-- One head's output entry is its attention. -/
theorem stHalf_apply (qi : Fin 16) (e : Fin 2) (L : List (View.Piece (Elt Ideal) S2x2048x512 .f32)) (M : List (View.Piece (Elt Ideal) S2x2048x512 .fp8e4m3))
    (d : Fin 64) (col : Fin 512) :
    stHalf x0 x1 x2 x3 x4 x5 a8 a9 qi e (stL x0 x1 x3 x4 qi e L) (stM x0 x1 x3 x4 a8 qi e (stL x0 x1 x3 x4 qi e L) M) (ix2 d col)
      = entry x0 x1 x2 x3 x4 x5 (⟨128 * qi.val + col.val % 128, by omega⟩ : Fin 2048) (⟨col.val / 128, by omega⟩ : Fin 4) e d := by
  have hq := qi.isLt
  have e1 : (View.ld x2 (Rect.unit (s := S1) ![0] S1.size inb_S1_S1_0) (Shape.Idx.first Nat.one_pos) : EReal) = x2 (ix1 (0 : Fin 1)) := by
    show x2 _ = x2 _
    congr 1
    funext a; apply Fin.ext
    match a with
    | ⟨0, _⟩ => rfl
  refine (half_apply e (scored x0 x1 x3 x4 qi e) (colT x0 x1 x3 x4 qi e) (qi.val + 1) (scored_tiled x0 x1 x3 x4 qi e) (scored_scores x0 x1 x3 x4 qi e)
    a8 a9 L M (by omega) x5 _ (vrow x5 d) d col ?_).trans ?_
  · intro k
    rw [vrow, dif_pos k.isLt]
  · unfold entry
    show attn2 _ _ _ (Ideal.ofBits .f32 0x3B800000#32 * _) = _
    rw [bits_inv256, e1, attn2_eq (rowT x0 x1 x3 x4 (⟨128 * qi.val + col.val % 128, by omega⟩ : Fin 2048) (⟨col.val / 128, by omega⟩ : Fin 4) e)
      (colT x0 x1 x3 x4 qi e col) _ _ _ (fun k _ => rfl)]
    exact attn_extend _ _ _ _ (by omega) _ fun k h1 h2 => dif_neg (by rintro ⟨_, h⟩; have h : k ≤ 128 * qi.val + col.val % 128 := h; omega)

/-- What the output block holds at each index. -/
def blockG (y : S1x2048x512.Idx) : EReal :=
  entry x0 x1 x2 x3 x4 x5 (y 1) (⟨(y 2).val / 128, by have : (y 2).val < 512 := (y 2).isLt; omega⟩ : Fin 4)
    (⟨(y 2).val % 128 / 64, by omega⟩ : Fin 2) (⟨(y 2).val % 64, by omega⟩ : Fin 64)

/-- An entry of a stored output tile. -/
theorem outTile_apply (qi : Fin 16) (o : FVec Ideal S128x512 .f32)
    (ho : ∀ (r : Fin 128) (col : Fin 512), o (ix2 r col) = entry x0 x1 x2 x3 x4 x5 (⟨128 * qi.val + col.val % 128, by omega⟩ : Fin 2048)
      (⟨col.val / 128, by omega⟩ : Fin 4) (⟨r.val / 64, by omega⟩ : Fin 2) (⟨r.val % 64, by omega⟩ : Fin 64))
    (t : Fin 4) (x : S1x128x128.Idx) : outTile o t x = blockG x0 x1 x2 x3 x4 x5 ((outRect qi t).emb x) := by
  obtain ⟨u, r, j, rfl⟩ : ∃ (u : Fin 1) (r : Fin 128) (j : Fin 128), x = ix3 u r j := ⟨x 0, x 1, x 2, eq_ix3 x⟩
  have hr := r.isLt; have hj := j.isLt; have ht := t.isLt
  unfold outTile
  refine (shapeCast_ab_1ab_apply _ _ u r j).trans ?_
  show transpose S128x128 [1, 0] (extractStridedSlice S128x128 ![0, 128 * t.val] o (slices_tile t)) transposes_S128x128_p1_0_S128x128 (ix2 r j) = _
  refine (transpose_ix2_apply _ _ r j).trans ?_
  rw [slice2_axis1_apply (128 * t.val) o _ j r (⟨128 * t.val + r.val, by omega⟩ : Fin 512) rfl, ho]
  have e1 : ((outRect qi t).emb (ix3 u r j) 1) = (⟨128 * qi.val + r.val, by omega⟩ : Fin 2048) := by
    apply Fin.ext; show 128 * qi.val + 1 * r.val = _; rw [Nat.one_mul]
  have e2 : ((outRect qi t).emb (ix3 u r j) 2) = (⟨128 * t.val + j.val, by omega⟩ : Fin 512) := by
    apply Fin.ext; show 128 * t.val + 1 * j.val = _; rw [Nat.one_mul]
  unfold blockG
  simp only [e1, e2]
  congr 1 <;> apply Fin.ext <;> simp only [] <;> omega

/-- Every store of the output is a block of `blockG`. -/
theorem run_pieces : ∀ (n : ℕ) (h : n ≤ 16), ∀ p ∈ (run x0 x1 x2 x3 x4 x5 a8 a9 n h).O, ∀ x : p.1.shape.Idx, p.2 x = blockG x0 x1 x2 x3 x4 x5 (p.1.emb x)
  | 0, _, p, hp => by simp [run] at hp
  | n + 1, h, p, hp => by
    have key := fun (t : Fin 4) (s : State Ideal) => outTile_apply x0 x1 x2 x3 x4 x5 ⟨n, h⟩ (concatenate S128x512 0
      [⟨S64x512, stHalf x0 x1 x2 x3 x4 x5 a8 a9 ⟨n, h⟩ 0 (stL x0 x1 x3 x4 ⟨n, h⟩ 0 s.L) (stM x0 x1 x3 x4 a8 ⟨n, h⟩ 0 (stL x0 x1 x3 x4 ⟨n, h⟩ 0 s.L) s.M)⟩,
        ⟨S64x512, stHalf x0 x1 x2 x3 x4 x5 a8 a9 ⟨n, h⟩ 1 (stL x0 x1 x3 x4 ⟨n, h⟩ 1 (stL x0 x1 x3 x4 ⟨n, h⟩ 0 s.L))
          (stM x0 x1 x3 x4 a8 ⟨n, h⟩ 1 (stL x0 x1 x3 x4 ⟨n, h⟩ 1 (stL x0 x1 x3 x4 ⟨n, h⟩ 0 s.L))
            (stM x0 x1 x3 x4 a8 ⟨n, h⟩ 0 (stL x0 x1 x3 x4 ⟨n, h⟩ 0 s.L) s.M))⟩] concatenates_S64x512_S64x512_S128x512_d0) (fun r col => by
      have hr := r.isLt
      by_cases h64 : r.val < 64
      · refine (concatenate_pair_apply_left (t := S128x512) (s₁ := S64x512) (s₂ := S64x512) 0 _ _ concatenates_S64x512_S64x512_S128x512_d0 (ix2 r col) rfl
          (ix2 (⟨r.val, h64⟩ : Fin 64) col) ?_).trans ?_
        · intro b
          match b with
          | ⟨0, _⟩ => rfl
          | ⟨1, _⟩ => rfl
        · rw [stHalf_apply]
          congr 1 <;> apply Fin.ext
          · show 0 = r.val / 64; omega
          · show r.val = r.val % 64; omega
      · refine (concatenate_pair_apply_right (t := S128x512) (s₁ := S64x512) (s₂ := S64x512) 0 _ _ concatenates_S64x512_S64x512_S128x512_d0 (ix2 r col) rfl rfl
          (ix2 (⟨r.val - 64, by omega⟩ : Fin 64) col) ?_ ?_).trans ?_
        · intro b hb
          match b with
          | ⟨0, _⟩ => exact absurd rfl hb
          | ⟨1, _⟩ => rfl
        · show r.val - 64 + 64 = r.val; omega
        · rw [stHalf_apply]
          congr 1 <;> apply Fin.ext
          · show 1 = r.val / 64; omega
          · show r.val - 64 = r.val % 64; omega) t
    rw [run, stage, outStores] at hp
    rcases List.mem_cons.mp hp with rfl | hp
    · exact key 3 _
    rcases List.mem_cons.mp hp with rfl | hp
    · exact key 2 _
    rcases List.mem_cons.mp hp with rfl | hp
    · exact key 1 _
    rcases List.mem_cons.mp hp with rfl | hp
    · exact key 0 _
    exact run_pieces n _ p hp

/-- Every rectangle of the first `n` query blocks is stored. -/
theorem run_cover : ∀ (n : ℕ) (h : n ≤ 16) (qi : Fin 16) (t : Fin 4), qi.val < n → ∃ p ∈ (run x0 x1 x2 x3 x4 x5 a8 a9 n h).O, p.1 = outRect qi t
  | 0, _, _, _, hq => absurd hq (Nat.not_lt_zero _)
  | n + 1, h, qi, t, hq => by
    by_cases hn : qi.val = n
    · have : qi = ⟨n, h⟩ := Fin.ext hn
      subst this
      rw [run, stage, outStores]
      match t with
      | ⟨0, _⟩ => exact ⟨_, List.mem_cons_of_mem _ (List.mem_cons_of_mem _ (List.mem_cons_of_mem _ (List.mem_cons_self ..))), rfl⟩
      | ⟨1, _⟩ => exact ⟨_, List.mem_cons_of_mem _ (List.mem_cons_of_mem _ (List.mem_cons_self ..)), rfl⟩
      | ⟨2, _⟩ => exact ⟨_, List.mem_cons_of_mem _ (List.mem_cons_self ..), rfl⟩
      | ⟨3, _⟩ => exact ⟨_, List.mem_cons_self .., rfl⟩
    · obtain ⟨p, hp, e⟩ := run_cover n (Nat.le_of_succ_le h) qi t (by omega)
      refine ⟨p, ?_, e⟩
      rw [run, stage, outStores]
      exact List.mem_cons_of_mem _ (List.mem_cons_of_mem _ (List.mem_cons_of_mem _ (List.mem_cons_of_mem _ hp)))

/-- The sixteen query blocks' stores leave `blockG`. -/
theorem run_canon : View.canon (run x0 x1 x2 x3 x4 x5 a8 a9 16 le_rfl).O = blockG x0 x1 x2 x3 x4 x5 := by
  funext y
  have h1 : (y 1).val < 2048 := (y 1).isLt
  have h2 : (y 2).val < 512 := (y 2).isLt
  have h0 : (y 0).val < 1 := (y 0).isLt
  obtain ⟨p, hp, e⟩ := run_cover x0 x1 x2 x3 x4 x5 a8 a9 16 le_rfl ⟨(y 1).val / 128, by omega⟩ ⟨(y 2).val / 128, by omega⟩ (by show (y 1).val / 128 < 16; omega)
  have := View.canon_append_of_pieces (fun y => blockG x0 x1 x2 x3 x4 x5 y) [] _ (run_pieces x0 x1 x2 x3 x4 x5 a8 a9 16 le_rfl) y ⟨p, hp, by
    rw [e, Rect.mem_set_unit]
    intro b
    match b with
    | ⟨0, _⟩ => show 0 ≤ (y 0).val ∧ (y 0).val < 0 + 1; omega
    | ⟨1, _⟩ => show 128 * ((y 1).val / 128) ≤ (y 1).val ∧ (y 1).val < 128 * ((y 1).val / 128) + 128; omega
    | ⟨2, _⟩ => show 128 * ((y 2).val / 128) ≤ (y 2).val ∧ (y 2).val < 128 * ((y 2).val / 128) + 128; omega⟩
  rwa [List.append_nil] at this

end Body

end Cert.Attn

end
-- ==== Proof.Bridge.lean ====
module

public import proofs.«01_k».proof.Proof.Stages

/-! The printed body's stores are the stages'. -/

@[expose] public section

set_option maxRecDepth 65536

noncomputable section

namespace Cert.Attn

open Idealize.ShloMosaic Cert.KernelIdeal Cert.KernelIdeal.Gen

variable {F : FTy → Type} [FloatOps F] [Named F]
/-- The stores the printed body makes into the output block are those of the sixteen query blocks, one after the other. -/
theorem stores_eq (c : Dev nD) (i : grid0.Coords) (a1 : Memref sig .tc .smem S8 .f32) (h1 : a1.IsWhole) (a2 : Memref sig .tc .smem S1 .f32)
    (h2 : a2.IsWhole) (a3 : Memref sig .tc .smem S1 .f32) (h3 : a3.IsWhole) (a4 : Memref sig .tc .vmem S1x2048x512 .fp8e4m3) (h4 : a4.IsWhole)
    (a5 : Memref sig .tc .vmem S1x2x2048x128 .fp8e4m3) (h5 : a5.IsWhole) (a6 : Memref sig .tc .vmem S1x64x2048 .fp8e4m3) (h6 : a6.IsWhole)
    (a7 : Memref sig .tc .vmem S1x2048x512 .bf16) (h7 : a7.IsWhole) (a8 : Memref sig .tc .vmem S2x2048x512 .f32) (h8 : a8.IsWhole)
    (a9 : Memref sig .tc .vmem S2x2048x512 .fp8e4m3) (h9 : a9.IsWhole) (x0 : Vec F S8 .f32) (x1 x2 : Vec F S1 .f32)
    (x3 : Vec F S1x2048x512 .fp8e4m3) (x4 : Vec F S1x2x2048x128 .fp8e4m3) (x5 : Vec F S1x64x2048 .fp8e4m3) :
    (kernelRun0_A c i a1 h1 a2 h2 a3 h3 a4 h4 a5 h5 a6 h6 a7 h7 a8 h8 a9 h9 x0 x1 x2 x3 x4 x5).1 =
      (run (a1.view.read (Elt F) (h1.unread x0)) (a2.view.read (Elt F) (h2.unread x1)) (a3.view.read (Elt F) (h3.unread x2))
        (a4.view.read (Elt F) (h4.unread x3)) (a5.view.read (Elt F) (h5.unread x4)) (a6.view.read (Elt F) (h6.unread x5)) a8 a9 16 le_rfl).O := by
  sl_kernel_rfl

end Cert.Attn

end
-- ==== Proof.Final.lean ====
module

public import proofs.«01_k».proof.Proof.Block
public import proofs.«01_k».proof.Proof.Bridge
public import Idealize.ShloMosaic.Lib.Pointwise
public import Idealize.ShloMosaic.Lib.Claim
public import Idealize.ShloMosaic.Lib.Pipeline.ValueKit

/-! The kernel's result array at the extended reals. -/

@[expose] public section

set_option maxRecDepth 16384

noncomputable section

namespace Cert.Attn

open Idealize.ShloMosaic hiding ix1 ix2 ix3 ix4 ix5
open Idealize.ShloMosaic.ValueIdx Idealize.ShloMosaic.TcCoe Cert.KernelIdeal Cert.KernelIdeal.Gen
open Idealize.ShloMosaic.Pipeline (Dat)
open scoped BigOperators

/-! ## The stated result -/

/-- Query `q`'s score with key `k` in head `h` of batch `b`: −∞ for a key after the query. -/
def specT (a0 : S8x2048x512.Idx → EReal) (a1 : S8x2048x64.Idx → EReal) (a3 : S8.Idx → EReal) (a4 : S1.Idx → EReal) (b : Fin 8) (q : Fin 2048) (h : Fin 8)
    (k : ℕ) : EReal :=
  if hk : k < 2048 ∧ k ≤ q.val then
    (∑ d : Fin 64, a1 (ix3 b (⟨k, hk.1⟩ : Fin 2048) d) * a0 (ix3 b q (⟨64 * h.val + d.val, by omega⟩ : Fin 512)))
      * (a3 (ix1 h) * (a4 (ix1 (0 : Fin 1)) * Ideal.ofBits .f32 0x3E000000#32))
  else ⊥

/-- Coordinate `d` of key `k`'s value in batch `b`. -/
def specV (a2 : S8x2048x64.Idx → EReal) (b : Fin 8) (d : Fin 64) (k : ℕ) : EReal := if h : k < 2048 then a2 (ix3 b (⟨k, h⟩ : Fin 2048) d) else 0

/-- The causal attention of every query in every head: what both programs compute. -/
def specG (a0 : S8x2048x512.Idx → EReal) (a1 a2 : S8x2048x64.Idx → EReal) (a3 : S8.Idx → EReal) (a4 a5 : S1.Idx → EReal) (y : S8x2048x512.Idx) : EReal :=
  attn (specT a0 a1 a3 a4 (y 0) (y 1) (⟨(y 2).val / 64, by have : (y 2).val < 512 := (y 2).isLt; omega⟩ : Fin 8))
    (specV a2 (y 0) (⟨(y 2).val % 64, by omega⟩ : Fin 64)) 2048 (((1 / 256 : ℝ) : EReal) * a5 (ix1 (0 : Fin 1)))

/-! ## The operands' blocks -/

variable (m : (ℓ : Loc nD τ sig) → Buf (Elt Ideal) ℓ) (ρ : Dev nD → PrngReg)

/-- Every window's block at a grid point: the scalars whole, of the others the point's batch. -/
theorem idx_all : ∀ t : Fin cfg0.N, win0_0.index t = ![0] ∧ win0_1.index t = ![0] ∧ win0_2.index t = ![0] ∧ win0_3.index t = ![t.val, 0, 0]
    ∧ win0_4.index t = ![t.val, 0, 0, 0] ∧ win0_5.index t = ![t.val, 0, 0] ∧ win0_6.index t = ![t.val, 0, 0] :=
  (by decide +kernel : ∀ t : Fin grid0.N, _)

/-- The query scales' block is the whole array. -/
theorem iblk0_apply (c : Dev nD) (t : Fin cfg0.N) (h : Fin 8) : iblk m c 0 t (ix1 h) = m ((c : Thread nD τ).loc main_arg3) (ix1 h) := by
  blk_ext [iblk, V_main_arg3, idx_all t]

/-- The key scale's block is the whole array. -/
theorem iblk1_apply (c : Dev nD) (t : Fin cfg0.N) (h : Fin 1) : iblk m c 1 t (ix1 h) = m ((c : Thread nD τ).loc main_arg4) (ix1 h) := by
  blk_ext [iblk, V_main_arg4, idx_all t]

/-- The value scale's block is the whole array. -/
theorem iblk2_apply (c : Dev nD) (t : Fin cfg0.N) (h : Fin 1) : iblk m c 2 t (ix1 h) = m ((c : Thread nD τ).loc main_arg5) (ix1 h) := by
  blk_ext [iblk, V_main_arg5, idx_all t]

/-- The queries' block is the point's batch. -/
theorem iblk3_apply (c : Dev nD) (t : Fin cfg0.N) (u : Fin 1) (q : Fin 2048) (j : Fin 512) :
    iblk m c 3 t (ix3 u q j) = m ((c : Thread nD τ).loc main_arg0) (ix3 (⟨t.val, lt_of_lt_of_eq t.isLt N_0⟩ : Fin 8) q j) := by
  blk_ext [iblk, V_main_arg0, idx_all t]

/-- The zero word of the 8-bit format is 0. -/
theorem bits_zero8 : Ideal.ofBits .fp8e4m3 0x00#8 = 0 := by simp [Ideal.ofBits, Ideal.e4m3fn]

/-- The padded keys' block: the point's batch of the keys in one half of the columns, zeros in the other. -/
theorem iblk4_apply (c : Dev nD) (t : Fin cfg0.N) (u : Fin 1) (e : Fin 2) (k : Fin 2048) (d : Fin 128) :
    iblk m c 4 t (ix4 u e k d) = if h : d.val / 64 = e.val then
      m ((c : Thread nD τ).loc main_arg1) (ix3 (⟨t.val, lt_of_lt_of_eq t.isLt N_0⟩ : Fin 8) k (⟨d.val % 64, by omega⟩ : Fin 64)) else (0 : EReal) := by
  have e1 : iblk m c 4 t (ix4 u e k d) = V m c main_v6 (ix4 (⟨t.val, lt_of_lt_of_eq t.isLt N_0⟩ : Fin 8) e k d) := by
    blk_ext [iblk, idx_all t]
  rw [e1]
  entry_read
  pointwise
  have he : (ix4 (⟨t.val, lt_of_lt_of_eq t.isLt N_0⟩ : Fin 8) e k d 1).val = e.val := rfl
  have hd : (ix4 (⟨t.val, lt_of_lt_of_eq t.isLt N_0⟩ : Fin 8) e k d 3).val = d.val := rfl
  have h1 := e.isLt; have h2 := d.isLt
  split
  · next h =>
    rw [he] at h
    split
    · next h' =>
      rw [hd] at h'
      rw [dif_pos (by omega)]
      refine congrArg (m ((c : Thread nD τ).loc main_arg1)) (funext fun a => Fin.ext ?_)
      match a with
      | ⟨0, _⟩ => rfl
      | ⟨1, _⟩ => rfl
      | ⟨2, _⟩ => show d.val = d.val % 64; omega
    · next h' =>
      rw [hd] at h'
      rw [dif_neg (by omega)]
      after_results_simp
      exact (congrArg (Ideal.ofBits .fp8e4m3) (broadcastInDim_scalar_apply _ _ _)).trans bits_zero8
  · next h =>
    rw [he] at h
    split
    · next h' =>
      rw [hd] at h'
      rw [dif_neg (by omega)]
      after_results_simp
      exact (congrArg (Ideal.ofBits .fp8e4m3) (broadcastInDim_scalar_apply _ _ _)).trans bits_zero8
    · next h' =>
      rw [hd] at h'
      rw [dif_pos (by omega)]
      refine congrArg (m ((c : Thread nD τ).loc main_arg1)) (funext fun a => Fin.ext ?_)
      match a with
      | ⟨0, _⟩ => rfl
      | ⟨1, _⟩ => rfl
      | ⟨2, _⟩ => show d.val - 64 = d.val % 64; omega

/-- The transposed values' block is the point's batch of the values. -/
theorem iblk5_apply (c : Dev nD) (t : Fin cfg0.N) (u : Fin 1) (d : Fin 64) (k : Fin 2048) :
    iblk m c 5 t (ix3 u d k) = m ((c : Thread nD τ).loc main_arg2) (ix3 (⟨t.val, lt_of_lt_of_eq t.isLt N_0⟩ : Fin 8) k d) := by
  have e1 : iblk m c 5 t (ix3 u d k) = V m c main_v7 (ix3 (⟨t.val, lt_of_lt_of_eq t.isLt N_0⟩ : Fin 8) d k) := by
    blk_ext [iblk, idx_all t]
  rw [e1]
  entry_read
  pointwise
  refine congrArg (m ((c : Thread nD τ).loc main_arg2)) (funext fun a => Fin.ext ?_)
  match a with
  | ⟨0, _⟩ => rfl
  | ⟨1, _⟩ => rfl
  | ⟨2, _⟩ => rfl

/-! ## The result array -/

/-- The zero half of a padded key adds nothing: the 128 products are the head's 64. -/
theorem pad_sum (f g : Fin 128 → EReal) (e : Fin 2) (a b : Fin 64 → EReal) (h0 : ∀ d : Fin 128, d.val / 64 ≠ e.val → f d = 0)
    (h1 : ∀ d : Fin 64, f (⟨64 * e.val + d.val, by omega⟩ : Fin 128) = a d) (h2 : ∀ d : Fin 64, g (⟨64 * e.val + d.val, by omega⟩ : Fin 128) = b d) :
    ∑ d : Fin 128, f d * g d = ∑ d : Fin 64, a d * b d := by
  rw [show (∑ d : Fin 128, f d * g d) = ∑ d : Fin (64 + 64), f d * g d from rfl, Fin.sum_univ_add]
  match e with
  | ⟨0, _⟩ =>
    rw [add_comm, Finset.sum_eq_zero, zero_add]
    · refine Finset.sum_congr rfl fun d _ => ?_
      rw [← h1 d, ← h2 d]
      congr 2 <;> apply Fin.ext <;> simp [Fin.castAdd]
    · intro d _
      rw [h0 _ (by show (64 + d.val) / 64 ≠ 0; omega), zero_mul]
  | ⟨1, _⟩ =>
    rw [Finset.sum_eq_zero, zero_add]
    · refine Finset.sum_congr rfl fun d _ => ?_
      rw [← h1 d, ← h2 d]
      congr 2
    · intro d _
      rw [h0 _ (by show d.val / 64 ≠ 1; omega), zero_mul]

/-- What a grid point leaves in the output block. -/
theorem out_eq (c : Dev nD) (i : grid0.Coords) (a1 : Memref sig .tc .smem S8 .f32) (h1 : a1.IsWhole) (a2 : Memref sig .tc .smem S1 .f32)
    (h2 : a2.IsWhole) (a3 : Memref sig .tc .smem S1 .f32) (h3 : a3.IsWhole) (a4 : Memref sig .tc .vmem S1x2048x512 .fp8e4m3) (h4 : a4.IsWhole)
    (a5 : Memref sig .tc .vmem S1x2x2048x128 .fp8e4m3) (h5 : a5.IsWhole) (a6 : Memref sig .tc .vmem S1x64x2048 .fp8e4m3) (h6 : a6.IsWhole)
    (a7 : Memref sig .tc .vmem S1x2048x512 .bf16) (h7 : a7.IsWhole) (a8 : Memref sig .tc .vmem S2x2048x512 .f32) (h8 : a8.IsWhole)
    (a9 : Memref sig .tc .vmem S2x2048x512 .fp8e4m3) (h9 : a9.IsWhole) (x0 : Vec Ideal S8 .f32) (x1 x2 : Vec Ideal S1 .f32)
    (x3 : Vec Ideal S1x2048x512 .fp8e4m3) (x4 : Vec Ideal S1x2x2048x128 .fp8e4m3) (x5 : Vec Ideal S1x64x2048 .fp8e4m3) :
    out0_A_6 c i a1 h1 a2 h2 a3 h3 a4 h4 a5 h5 a6 h6 a7 h7 a8 h8 a9 h9 x0 x1 x2 x3 x4 x5 = blockG x0 x1 x2 x3 x4 x5 := by
  unfold out0_A_6
  rw [View.read_writes_junk_eq_canon, stores_eq, h1.read_unread, h2.read_unread, h3.read_unread, h4.read_unread, h5.read_unread, h6.read_unread]
  exact run_canon x0 x1 x2 x3 x4 x5 a8 a9

/-- A grid point's block is the stated result of its batch. -/
theorem block_eq (c : Dev nD) (t : Fin cfg0.N) (u : Fin 1) (q : Fin 2048) (j : Fin 512) :
    blockG (iblk m c 0 t) (iblk m c 1 t) (iblk m c 2 t) (iblk m c 3 t) (iblk m c 4 t) (iblk m c 5 t) (ix3 u q j)
      = specG (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (ix3 (⟨t.val, lt_of_lt_of_eq t.isLt N_0⟩ : Fin 8) q j) := by
  have hj := j.isLt
  unfold blockG entry specG
  rw [iblk2_apply]
  congr 1
  · funext k
    show rowT _ _ _ _ q (⟨j.val / 128, by omega⟩ : Fin 4) (⟨j.val % 128 / 64, by omega⟩ : Fin 2) k
      = specT _ _ _ _ (⟨t.val, lt_of_lt_of_eq t.isLt N_0⟩ : Fin 8) q (⟨j.val / 64, by omega⟩ : Fin 8) k
    unfold rowT specT
    split
    · next hk =>
      have e8 : (⟨2 * (j.val / 128) + j.val % 128 / 64, by omega⟩ : Fin 8) = ⟨j.val / 64, by omega⟩ := by
        apply Fin.ext; show 2 * (j.val / 128) + j.val % 128 / 64 = j.val / 64; omega
      rw [iblk0_apply, iblk1_apply]
      simp only [e8]
      congr 1
      refine pad_sum _ _ (⟨j.val % 128 / 64, by omega⟩ : Fin 2) _ _ ?_ ?_ ?_
      · intro d hd
        rw [iblk4_apply, dif_neg hd]
      · intro d
        have := d.isLt
        rw [iblk4_apply, dif_pos (by show (64 * (j.val % 128 / 64) + d.val) / 64 = _; show _ = j.val % 128 / 64; omega)]
        congr 2
        apply Fin.ext
        show (64 * (j.val % 128 / 64) + d.val) % 64 = d.val
        omega
      · intro d
        rw [iblk3_apply]
        congr 2
        apply Fin.ext
        show 128 * (j.val / 128) + (64 * (j.val % 128 / 64) + d.val) = 64 * (j.val / 64) + d.val
        omega
    · rfl
  · funext k
    show vrow _ (⟨j.val % 64, by omega⟩ : Fin 64) k = specV _ (⟨t.val, lt_of_lt_of_eq t.isLt N_0⟩ : Fin 8) (⟨j.val % 64, by omega⟩ : Fin 64) k
    unfold vrow specV
    split
    · rw [iblk5_apply]
    · rfl

/-- The result array after the run. -/
theorem final (c : Dev nD) : (dats m 0 c).arrAt 6 cfg0.N
    = specG (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  refine (congrFun (Cert.KernelIdeal.Value.flushed6_A m c t) y).trans ?_
  rw [out_eq]
  obtain ⟨u, q, j, rfl⟩ : ∃ (u : Fin 1) (q : Fin 2048) (j : Fin 512), y = ix3 u q j := ⟨y 0, y 1, y 2, ValueIdx.eq_ix3 y⟩
  refine (block_eq m c t u q j).trans ?_
  congr 1
  blk_ext [idx_all t]

end Cert.Attn

end
-- ==== Proof.RefScores.lean ====
module

public import proofs.«01_k».proof.Proof.Final
public import proofs.«01_k».proof.Proof.Gen.ReferenceIdeal.Value

/-! The reference's scores at the extended reals. -/

@[expose] public section

set_option maxRecDepth 16384

noncomputable section

namespace Cert.Attn.Ref

open Idealize.ShloMosaic hiding ix1 ix2 ix3 ix4 ix5
open Idealize.ShloMosaic.ValueIdx Cert.ReferenceIdeal Cert.ReferenceIdeal.Gen
open scoped BigOperators

/-! ## The two products -/

/-- The product of the keys with the queries of every head, read at an index. -/
theorem keys_queries (A : FVec Ideal S8x2048x64 .f32) (B : FVec Ideal S8x2048x8x64 .f32) (b : Fin 8) (k q : Fin 2048) (h : Fin 8) :
    (matmul (F := Ideal) dot_S8x2048x64_S8x2048x8x64_S8x2048x2048x8_2_3_1_12_0_0 none A B (constant S8x2048x2048x8 .f32 0x00000000#32)
      (ix4 b k q h) : EReal) = ∑ d : Fin 64, A (ix3 b k d) * B (ix4 b q h d) := by
  refine (Ideal.matmul_apply _ _ _ _ _ _).trans ?_
  show Ideal.ofBits .f32 0x00000000#32 + _ = _
  rw [Ideal.ofBits_zero_f32, zero_add,
    ← Equiv.sum_comp (contrEquiv1 dot_S8x2048x64_S8x2048x8x64_S8x2048x2048x8_2_3_1_12_0_0 64 rfl rfl).symm]
  refine Finset.sum_congr rfl fun d _ => ?_
  have hd := contrEquiv1_symm_val dot_S8x2048x64_S8x2048x8x64_S8x2048x2048x8_2_3_1_12_0_0 64 rfl rfl d
  congr 1
  · refine congrArg A (funext fun a => Fin.ext ?_)
    match a with
    | ⟨0, _⟩ => rfl
    | ⟨1, _⟩ => rfl
    | ⟨2, _⟩ => exact hd
  · refine congrArg B (funext fun a => Fin.ext ?_)
    match a with
    | ⟨0, _⟩ => rfl
    | ⟨1, _⟩ => rfl
    | ⟨2, _⟩ => rfl
    | ⟨3, _⟩ => exact hd

/-- The product of the values with the weights of every head, read at an index. -/
theorem values_weights (A : FVec Ideal S8x2048x64 .f32) (B : FVec Ideal S8x8x2048x2048 .f32) (b : Fin 8) (d : Fin 64) (h : Fin 8) (q : Fin 2048) :
    (matmul (F := Ideal) dot_S8x2048x64_S8x8x2048x2048_S8x64x8x2048_1_3_2_12_0_0 none A B (constant S8x64x8x2048 .f32 0x00000000#32)
      (ix4 b d h q) : EReal) = ∑ k : Fin 2048, A (ix3 b k d) * B (ix4 b h q k) := by
  refine (Ideal.matmul_apply _ _ _ _ _ _).trans ?_
  show Ideal.ofBits .f32 0x00000000#32 + _ = _
  rw [Ideal.ofBits_zero_f32, zero_add,
    ← Equiv.sum_comp (contrEquiv1 dot_S8x2048x64_S8x8x2048x2048_S8x64x8x2048_1_3_2_12_0_0 2048 rfl rfl).symm]
  refine Finset.sum_congr rfl fun k _ => ?_
  have hk := contrEquiv1_symm_val dot_S8x2048x64_S8x8x2048x2048_S8x64x8x2048_1_3_2_12_0_0 2048 rfl rfl k
  congr 1
  · refine congrArg A (funext fun a => Fin.ext ?_)
    match a with
    | ⟨0, _⟩ => rfl
    | ⟨1, _⟩ => exact hk
    | ⟨2, _⟩ => rfl
  · refine congrArg B (funext fun a => Fin.ext ?_)
    match a with
    | ⟨0, _⟩ => rfl
    | ⟨1, _⟩ => rfl
    | ⟨2, _⟩ => rfl
    | ⟨3, _⟩ => exact hk

/-! ## The mask -/

/-- The causal window's mask: the distance from key to query is between 0 and 4095. -/
def maskT : IVec S2048x2048 1 :=
  have v20 : IVec S2048x2048 32 := subi (iota .tc S2048x2048 32 [0] iota_S2048x2048_d0_w32) (iota .tc S2048x2048 32 [1] iota_S2048x2048_d1_w32)
  andi (cmpi .sge v20 (broadcast S2048x2048 0#32)) (cmpi .slt v20 (broadcast S2048x2048 4096#32))

/-- Of 2048 keys, the mask lets through those up to the query's own. -/
theorem maskT_apply (q k : Fin 2048) : maskT (ix2 q k) = BitVec.ofBool (decide (k.val ≤ q.val)) := by
  have hq := q.isLt; have hk := k.isLt
  have small : ∀ n : ℕ, n < 2048 → (BitVec.ofNat 32 n).toInt = (n : ℤ) := fun n hn => by
    rw [BitVec.toInt_eq_toNat_of_lt] <;> rw [BitVec.toNat_ofNat, Nat.mod_eq_of_lt] <;> omega
  have key : ∀ w : BitVec 32, w = BitVec.ofNat 32 q.val - BitVec.ofNat 32 k.val →
      BitVec.ofBool ((0#32).sle w) &&& BitVec.ofBool (w.slt 4096#32) = BitVec.ofBool (decide (k.val ≤ q.val)) := by
    rintro w rfl
    have hi : (BitVec.ofNat 32 q.val - BitVec.ofNat 32 k.val).toInt = (q.val : ℤ) - k.val := by
      rw [BitVec.toInt_sub, small q.val (by omega), small k.val (by omega), Int.bmod_def]
      omega
    rw [BitVec.sle, BitVec.slt, hi]
    by_cases h : k.val ≤ q.val
    · have h1 : (0#32).toInt ≤ (q.val : ℤ) - k.val := by simp; omega
      have h2 : (q.val : ℤ) - k.val < (4096#32).toInt := by
        have : (4096#32).toInt = 4096 := by decide
        omega
      rw [decide_eq_true h1, decide_eq_true h2, decide_eq_true h]; rfl
    · have h1 : ¬ (0#32).toInt ≤ (q.val : ℤ) - k.val := by simp; omega
      rw [decide_eq_false h1, decide_eq_false h, show BitVec.ofBool false = 0#1 from rfl, BitVec.zero_and]
  refine key _ ?_
  show iota .tc S2048x2048 32 [0] iota_S2048x2048_d0_w32 (ix2 q k) - iota .tc S2048x2048 32 [1] iota_S2048x2048_d1_w32 (ix2 q k) = _
  rw [iota_single_apply, iota_single_apply]

/-! ## The scores -/

variable (a0 : Vec Ideal S8x2048x512 .fp8e4m3) (a1 a2 : Vec Ideal S8x2048x64 .fp8e4m3) (a3 : Vec Ideal S8 .f32) (a4 a5 : Vec Ideal S1 .f32)

/-- The heads' scales. -/
def scaleT : FVec Ideal S8 .f32 := mulf (mulf a3 (broadcastTo S8 a4 broadcasts_S1_S8)) (broadcast S8 (Scalar.ofBits .f32 0x3E000000#32))

/-- A head's scale. -/
theorem scaleT_apply (h : Fin 8) : scaleT a3 a4 (ix1 h) = a3 (ix1 h) * (a4 (ix1 (0 : Fin 1)) * Ideal.ofBits .f32 0x3E000000#32) := by
  show a3 (ix1 h) * broadcastTo S8 a4 broadcasts_S1_S8 (ix1 h) * Ideal.ofBits .f32 0x3E000000#32 = _
  rw [broadcastTo_apply a4 broadcasts_S1_S8 (ix1 h) (ix1 (0 : Fin 1)) (fun a => by match a with | ⟨0, _⟩ => rfl), mul_assoc]

/-- The keys' products with the queries, laid out head by head. -/
def prodT : FVec Ideal S8x8x2048x2048 .f32 :=
  transpose S8x8x2048x2048 [0, 3, 2, 1]
    (matmul dot_S8x2048x64_S8x2048x8x64_S8x2048x2048x8_2_3_1_12_0_0 none (extf .f32 a1 bitsLt_fp8e4m3_f32)
      (shapeCast S8x2048x8x64 (extf .f32 a0 bitsLt_fp8e4m3_f32 : FVec Ideal S8x2048x512 .f32) shapeCasts_S8x2048x512_S8x2048x8x64)
      (constant S8x2048x2048x8 .f32 0x00000000#32))
    transposes_S8x2048x2048x8_p0_3_2_1_S8x8x2048x2048

/-- An entry of the products: the sum over the head's 64 coordinates. -/
theorem prodT_apply (b h : Fin 8) (q k : Fin 2048) : prodT a0 a1 (ix4 b h q k)
    = ∑ d : Fin 64, a1 (ix3 b k d) * a0 (ix3 b q (⟨64 * h.val + d.val, by omega⟩ : Fin 512)) := by
  unfold prodT
  refine (transpose_apply _ _ _ (ix4 b h q k) (ix4 b k q h) fun a => by
    match a with | ⟨0, _⟩ => rfl | ⟨1, _⟩ => rfl | ⟨2, _⟩ => rfl | ⟨3, _⟩ => rfl).trans ?_
  refine (keys_queries _ _ b k q h).trans (Finset.sum_congr rfl fun d _ => ?_)
  congr 1
  refine (shapeCast_apply _ _ (ix4 b q h d) (ix3 b q (⟨64 * h.val + d.val, by omega⟩ : Fin 512)) ?_).trans rfl
  rw [Shape.rowMajor_val_three, Shape.rowMajor_val_four]
  show (b.val * 2048 + q.val) * 512 + (64 * h.val + d.val) = ((b.val * 2048 + q.val) * 8 + h.val) * 64 + d.val
  ring

/-- The masked scores. -/
def scoreT : FVec Ideal S8x8x2048x2048 .f32 :=
  select (broadcastTo S8x8x2048x2048 (shapeCast S1x1x2048x2048 (shapeCast S1x1x2048x2048 maskT shapeCasts_S2048x2048_S1x1x2048x2048)
      shapeCasts_S1x1x2048x2048_S1x1x2048x2048) broadcasts_S1x1x2048x2048_S8x8x2048x2048)
    (mulf (prodT a0 a1) (broadcastTo S8x8x2048x2048 (shapeCast S1x8x1x1 (scaleT a3 a4) shapeCasts_S8_S1x8x1x1) broadcasts_S1x8x1x1_S8x8x2048x2048))
    (broadcast S8x8x2048x2048 (Scalar.ofBits .f32 0xFF800000#32))

/-- A masked score is the stated one. -/
theorem scoreT_apply (b h : Fin 8) (q k : Fin 2048) : scoreT a0 a1 a3 a4 (ix4 b h q k) = specT a0 a1 a3 a4 b q h k.val := by
  have em : broadcastTo S8x8x2048x2048 (shapeCast S1x1x2048x2048 (shapeCast S1x1x2048x2048 maskT shapeCasts_S2048x2048_S1x1x2048x2048)
      shapeCasts_S1x1x2048x2048_S1x1x2048x2048) broadcasts_S1x1x2048x2048_S8x8x2048x2048 (ix4 b h q k) = maskT (ix2 q k) := by
    refine (broadcastTo_apply _ _ _ (ix4 (0 : Fin 1) (0 : Fin 1) q k) fun a => by
      match a with | ⟨0, _⟩ => rfl | ⟨1, _⟩ => rfl | ⟨2, _⟩ => rfl | ⟨3, _⟩ => rfl).trans ?_
    refine (shapeCast_apply _ _ _ (ix4 (0 : Fin 1) (0 : Fin 1) q k) rfl).trans ?_
    refine shapeCast_apply _ _ _ (ix2 q k) ?_
    rw [Shape.rowMajor_val_two, Shape.rowMajor_val_four]
    show q.val * 2048 + k.val = ((0 * 1 + 0) * 2048 + q.val) * 2048 + k.val
    ring
  have es : broadcastTo S8x8x2048x2048 (shapeCast S1x8x1x1 (scaleT a3 a4) shapeCasts_S8_S1x8x1x1) broadcasts_S1x8x1x1_S8x8x2048x2048 (ix4 b h q k)
      = scaleT a3 a4 (ix1 h) := by
    refine (broadcastTo_apply _ _ _ (ix4 (0 : Fin 1) h (0 : Fin 1) (0 : Fin 1)) fun a => by
      match a with | ⟨0, _⟩ => rfl | ⟨1, _⟩ => rfl | ⟨2, _⟩ => rfl | ⟨3, _⟩ => rfl).trans ?_
    refine shapeCast_apply _ _ _ (ix1 h) ?_
    rw [Shape.rowMajor_val_one, Shape.rowMajor_val_four]
    show h.val = ((0 * 8 + h.val) * 1 + 0) * 1 + 0
    ring
  show Scalar.select (broadcastTo S8x8x2048x2048 _ broadcasts_S1x1x2048x2048_S8x8x2048x2048 (ix4 b h q k))
    ((prodT a0 a1 (ix4 b h q k) : EReal) * broadcastTo S8x8x2048x2048 _ broadcasts_S1x8x1x1_S8x8x2048x2048 (ix4 b h q k))
    (Ideal.ofBits .f32 0xFF800000#32) = _
  rw [em, es, maskT_apply, prodT_apply, scaleT_apply, bits_bot]
  unfold specT
  by_cases hk : k.val ≤ q.val
  · rw [dif_pos ⟨k.isLt, hk⟩, decide_eq_true hk]; rfl
  · rw [dif_neg (fun h => hk h.2), decide_eq_false hk]; rfl

end Cert.Attn.Ref

end
-- ==== Proof.RefWeights.lean ====
module

public import proofs.«01_k».proof.Proof.RefScores

/-! The reference's weights at the extended reals. -/

@[expose] public section

set_option maxRecDepth 16384

noncomputable section

namespace Cert.Attn.Ref

open Idealize.ShloMosaic hiding ix1 ix2 ix3 ix4 ix5
open Idealize.ShloMosaic.ValueIdx Cert.ReferenceIdeal Cert.ReferenceIdeal.Gen
open scoped BigOperators

/-! ## Operations at an index -/

/-- A product of arrays, at an index. -/
theorem mulf_at {s : Shape} (x y : FVec Ideal s .f32) (i : s.Idx) : (mulf x y i : EReal) = (x i : EReal) * (y i : EReal) := rfl

/-- A difference of arrays, at an index. -/
theorem subf_at {s : Shape} (x y : FVec Ideal s .f32) (i : s.Idx) : (subf x y i : EReal) = (x i : EReal) - (y i : EReal) := rfl

/-- An array's exponential, at an index. -/
theorem exp_at {s : Shape} (x : FVec Ideal s .f32) (i : s.Idx) : (exp x i : EReal) = Ideal.exp (x i) := rfl

/-- A maximum along one axis is the greatest entry. -/
theorem max_single {s t : Shape} {a : Fin s.rank} (x : FVec Ideal s .f32) (h : s.Reduces [a] t) (hφ : FKind.Formats .f32)
    (hacc : 0xFF800000#32 = FKind.maximumf.neutral .f32 hφ) (j : t.Idx) :
    (multiReduction .maximumf [a] t x 0xFF800000#32 h hφ hacc j : EReal) = Finset.univ.sup fun k => (x (h.lift j k) : EReal) := by
  refine (Ideal.multiReduction_maximumf_single (φ := .f32) _ _ _ _ _ _).trans ?_
  show Finset.fold max (Ideal.ofBits .f32 0xFF800000#32) _ _ = _
  rw [bits_bot, fold_max_sup]
  rfl

/-- The greatest of `n` values, counted. -/
theorem sup_counted {n N : ℕ} (hN : n = N) (f : Fin n → EReal) (T : ℕ → EReal) (e : ∀ k : Fin n, f k = T k.val) :
    Finset.univ.sup f = (Finset.range N).sup T := by
  subst hN
  apply le_antisymm
  · exact Finset.sup_le fun k _ => (e k).le.trans (Finset.le_sup (f := T) (Finset.mem_range.mpr k.isLt))
  · exact Finset.sup_le fun k hk => (e ⟨k, Finset.mem_range.mp hk⟩).ge.trans (Finset.le_sup (f := f) (Finset.mem_univ _))

/-- The sum of `n` values, counted. -/
theorem sum_counted {n N : ℕ} (hN : n = N) (f : Fin n → EReal) (T : ℕ → EReal) (e : ∀ k : Fin n, f k = T k.val) :
    ∑ k, f k = ∑ k ∈ Finset.range N, T k := by
  subst hN
  rw [Finset.sum_range]
  exact Finset.sum_congr rfl fun k _ => e k

/-! ## Rows -/

/-- The index of a row's entry. -/
theorem lift_keys (b h : Fin 8) (q k : Fin 2048) : reduces_S8x8x2048x2048_S8x8x2048.lift (ix3 b h q) k = ix4 b h q k := by
  funext a; apply Fin.ext
  match a with
  | ⟨0, _⟩ => rfl
  | ⟨1, _⟩ => rfl
  | ⟨2, _⟩ => rfl
  | ⟨3, _⟩ => rfl

/-- A trailing unit axis, dropped. -/
theorem column_apply (x : FVec Ideal S8x8x2048 .f32) (b h : Fin 8) (q : Fin 2048) (u : Fin 1) :
    shapeCast S8x8x2048x1 x shapeCasts_S8x8x2048_S8x8x2048x1 (ix4 b h q u) = x (ix3 b h q) := by
  refine shapeCast_apply _ _ _ (ix3 b h q) ?_
  rw [Shape.rowMajor_val_three, Shape.rowMajor_val_four]
  show (b.val * 8 + h.val) * 2048 + q.val = ((b.val * 8 + h.val) * 2048 + q.val) * 1 + u.val
  omega

/-- A row's greatest entry. -/
theorem row_max (x : FVec Ideal S8x8x2048x2048 .f32) (b h : Fin 8) (q : Fin 2048) (T : ℕ → EReal) (hx : ∀ k : Fin 2048, x (ix4 b h q k) = T k.val) :
    (multiReduction .maximumf [3] S8x8x2048 x 0xFF800000#32 reduces_S8x8x2048x2048_S8x8x2048 (.inl rfl) rfl (ix3 b h q) : EReal)
      = (Finset.range 2048).sup T :=
  (max_single x _ _ _ _).trans (sup_counted rfl _ _ fun k => (congrArg x (lift_keys b h q k)).trans (hx k))

/-- A row's sum. -/
theorem row_sum (x : FVec Ideal S8x8x2048x2048 .f32) (b h : Fin 8) (q : Fin 2048) (T : ℕ → EReal) (hx : ∀ k : Fin 2048, x (ix4 b h q k) = T k.val) :
    (multiReduction .add [3] S8x8x2048 x 0x00000000#32 reduces_S8x8x2048x2048_S8x8x2048 (.inl rfl) rfl (ix3 b h q) : EReal)
      = ∑ k ∈ Finset.range 2048, T k :=
  (Ideal.multiReduction_add_single (φ := .f32) x _ _ _ _ _).trans (sum_counted rfl _ _ fun k => (congrArg x (lift_keys b h q k)).trans (hx k))

/-- A column of row values, repeated along the rows. -/
theorem spread_apply (x : FVec Ideal S8x8x2048 .f32) (b h : Fin 8) (q k : Fin 2048) :
    broadcastTo S8x8x2048x2048 (shapeCast S8x8x2048x1 x shapeCasts_S8x8x2048_S8x8x2048x1) broadcasts_S8x8x2048x1_S8x8x2048x2048 (ix4 b h q k)
      = x (ix3 b h q) :=
  (broadcastTo_apply _ _ _ (ix4 b h q (0 : Fin 1)) fun a => by
    match a with | ⟨0, _⟩ => rfl | ⟨1, _⟩ => rfl | ⟨2, _⟩ => rfl | ⟨3, _⟩ => rfl).trans (column_apply x b h q 0)

/-! ## The weights -/

variable (a0 : Vec Ideal S8x2048x512 .fp8e4m3) (a1 a2 : Vec Ideal S8x2048x64 .fp8e4m3) (a3 : Vec Ideal S8 .f32) (a4 a5 : Vec Ideal S1 .f32)

/-- The exponentials, as one expression of the scores. -/
theorem pay3_eq : k0_pay3 (F := Ideal) a0 a1 a3 a4 = exp (subf (scoreT a0 a1 a3 a4) (broadcastTo S8x8x2048x2048 (shapeCast S8x8x2048x1
    (multiReduction .maximumf [3] S8x8x2048 (scoreT a0 a1 a3 a4) 0xFF800000#32 reduces_S8x8x2048x2048_S8x8x2048 (.inl rfl) rfl)
      shapeCasts_S8x8x2048_S8x8x2048x1) broadcasts_S8x8x2048x1_S8x8x2048x2048)) := rfl

/-- The exponentials are the weights. -/
theorem pay3_apply (b h : Fin 8) (q k : Fin 2048) :
    (k0_pay3 (F := Ideal) a0 a1 a3 a4 (ix4 b h q k) : EReal) = weight (specT a0 a1 a3 a4 b q h) 2048 k.val := by
  rw [pay3_eq, exp_at, subf_at, spread_apply, scoreT_apply, row_max _ b h q _ fun k => scoreT_apply a0 a1 a3 a4 b h q k, weight]

/-- The weights' sums, as one expression of the weights. -/
theorem pay4_eq : k0_pay4 (F := Ideal) a0 a1 a3 a4 = shapeCast S8x8x2048x1 (multiReduction .add [3] S8x8x2048 (k0_pay3 (F := Ideal) a0 a1 a3 a4)
    0x00000000#32 reduces_S8x8x2048x2048_S8x8x2048 (.inl rfl) rfl) shapeCasts_S8x8x2048_S8x8x2048x1 := rfl

/-- The weights' sum. -/
theorem pay4_apply (b h : Fin 8) (q : Fin 2048) (u : Fin 1) : (k0_pay4 (F := Ideal) a0 a1 a3 a4 (ix4 b h q u) : EReal)
    = ∑ k ∈ Finset.range 2048, weight (specT a0 a1 a3 a4 b q h) 2048 k := by
  rw [pay4_eq, column_apply, row_sum _ b h q _ fun k => pay3_apply a0 a1 a3 a4 b h q k]

/-- The scaled weights, as one expression of the weights. -/
theorem pay5_eq : k0_pay5 (F := Ideal) a0 a1 a3 a4
    = mulf (k0_pay3 (F := Ideal) a0 a1 a3 a4) (broadcast S8x8x2048x2048 (Scalar.ofBits .f32 0x43800000#32)) := rfl

/-- A constant array, at an index. -/
theorem const_at {s : Shape} (w : BitVec 32) (i : s.Idx) :
    ((broadcast s (Scalar.ofBits .f32 w : Ideal .f32) : FVec Ideal s .f32) i : EReal) = Ideal.ofBits .f32 w := rfl

/-- The weights scaled by 256. -/
theorem pay5_apply (b h : Fin 8) (q k : Fin 2048) : (k0_pay5 (F := Ideal) a0 a1 a3 a4 (ix4 b h q k) : EReal)
    = weight (specT a0 a1 a3 a4 b q h) 2048 k.val * (256 : ℝ) := by
  rw [pay5_eq, mulf_at, const_at, pay3_apply, bits_256]

end Cert.Attn.Ref

end
-- ==== Proof.Ref.lean ====
module

public import proofs.«01_k».proof.Proof.RefWeights

/-! The reference's result array at the extended reals. -/

@[expose] public section

set_option maxRecDepth 16384

noncomputable section

namespace Cert.Attn.Ref

open Idealize.ShloMosaic hiding ix1 ix2 ix3 ix4 ix5
open Idealize.ShloMosaic.ValueIdx Cert.ReferenceIdeal Cert.ReferenceIdeal.Gen
open scoped BigOperators

variable (a0 : Vec Ideal S8x2048x512 .fp8e4m3) (a1 a2 : Vec Ideal S8x2048x64 .fp8e4m3) (a3 : Vec Ideal S8 .f32) (a4 a5 : Vec Ideal S1 .f32)

/-! ## The result -/

/-- The result before its last two axes are joined. -/
def headsT (v : FVec Ideal S8x2048x64 .f32) (l : FVec Ideal S8x8x2048x1 .f32) (w : FVec Ideal S8x8x2048x2048 .f32) : FVec Ideal S8x2048x8x64 .f32 :=
  mulf (mulf (transpose S8x2048x8x64 [0, 3, 2, 1] (matmul dot_S8x2048x64_S8x8x2048x2048_S8x64x8x2048_1_3_2_12_0_0 none v
        (extf .f32 (truncf .fp8e4m3 (minimumf w (broadcast S8x8x2048x2048 (Scalar.ofBits .f32 0x43E00000#32))) bitsLt_fp8e4m3_f32) bitsLt_fp8e4m3_f32)
        (constant S8x64x8x2048 .f32 0x00000000#32)) transposes_S8x64x8x2048_p0_3_2_1_S8x2048x8x64)
      (broadcastTo S8x2048x8x64 (shapeCast S1x1x1x1 (mulf (broadcast S1 (Scalar.ofBits .f32 0x3B800000#32)) a5) shapeCasts_S1_S1x1x1x1)
        broadcasts_S1x1x1x1_S8x2048x8x64))
    (broadcastTo S8x2048x8x64 (transpose S8x2048x8x1 [0, 2, 1, 3] (divf (broadcast S8x8x2048x1 (Scalar.ofBits .f32 0x3F800000#32)) l)
      transposes_S8x8x2048x1_p0_2_1_3_S8x2048x8x1) broadcasts_S8x2048x8x1_S8x2048x8x64)

/-- An entry of the result of one head. -/
theorem headsT_apply (v : FVec Ideal S8x2048x64 .f32) (l : FVec Ideal S8x8x2048x1 .f32) (w : FVec Ideal S8x8x2048x2048 .f32)
    (b : Fin 8) (q : Fin 2048) (h : Fin 8) (d : Fin 64) : (headsT a5 v l w (ix4 b q h d) : EReal)
      = (∑ k : Fin 2048, v (ix3 b k d) * min (w (ix4 b h q k)) (448 : ℝ)) * (((1 / 256 : ℝ) : EReal) * a5 (ix1 (0 : Fin 1)))
        * Ideal.div 1 (l (ix4 b h q (0 : Fin 1))) := by
  unfold headsT
  rw [mulf_at, mulf_at]
  congr 1
  · congr 1
    · refine (transpose_apply _ _ _ (ix4 b q h d) (ix4 b d h q) fun a => by
        match a with | ⟨0, _⟩ => rfl | ⟨1, _⟩ => rfl | ⟨2, _⟩ => rfl | ⟨3, _⟩ => rfl).trans ?_
      refine (values_weights _ _ b d h q).trans (Finset.sum_congr rfl fun k _ => ?_)
      show v (ix3 b k d) * min (w (ix4 b h q k)) (Ideal.ofBits .f32 0x43E00000#32) = _
      rw [bits_448]
    · refine (broadcastTo_apply _ _ _ (ix4 (0 : Fin 1) (0 : Fin 1) (0 : Fin 1) (0 : Fin 1)) fun a => by
        match a with | ⟨0, _⟩ => rfl | ⟨1, _⟩ => rfl | ⟨2, _⟩ => rfl | ⟨3, _⟩ => rfl).trans ?_
      refine (shapeCast_apply _ _ _ (ix1 (0 : Fin 1)) ?_).trans ?_
      · rw [Shape.rowMajor_val_one, Shape.rowMajor_val_four]; rfl
      · show Ideal.ofBits .f32 0x3B800000#32 * a5 (ix1 (0 : Fin 1)) = _
        rw [bits_inv256]
  · refine (broadcastTo_apply _ _ _ (ix4 b q h (0 : Fin 1)) fun a => by
      match a with | ⟨0, _⟩ => rfl | ⟨1, _⟩ => rfl | ⟨2, _⟩ => rfl | ⟨3, _⟩ => rfl).trans ?_
    refine (transpose_apply _ _ _ (ix4 b q h (0 : Fin 1)) (ix4 b h q (0 : Fin 1)) fun a => by
      match a with | ⟨0, _⟩ => rfl | ⟨1, _⟩ => rfl | ⟨2, _⟩ => rfl | ⟨3, _⟩ => rfl).trans ?_
    show Ideal.div (Ideal.ofBits .f32 0x3F800000#32) (l (ix4 b h q (0 : Fin 1))) = _
    rw [Ideal.ofBits_one_f32]

/-- A narrowed array is the array. -/
theorem narrow_at {s : Shape} (x : FVec Ideal s .f32) (i : s.Idx) : (truncf .bf16 x bitsLt_bf16_f32 i : EReal) = x i := rfl

/-- A widened array is the array. -/
theorem values_at (k : Fin 2048) (b : Fin 8) (d : Fin 64) : (k0_pay2 (F := Ideal) a2 (ix3 b k d) : EReal) = a2 (ix3 b k d) := rfl

/-- The result, as one expression of the weights and their sums. -/
theorem pay1_eq (v : FVec Ideal S8x2048x64 .f32) (l : FVec Ideal S8x8x2048x1 .f32) (w : FVec Ideal S8x8x2048x2048 .f32) :
    k0_pay1 (F := Ideal) v l w (Scalar.ofBits .f32 0x43E00000#32) a5
      = truncf .bf16 (shapeCast S8x2048x512 (headsT a5 v l w) shapeCasts_S8x2048x8x64_S8x2048x512) bitsLt_bf16_f32 := rfl

/-- The result, of its parts. -/
theorem G6_eq : Cert.ReferenceIdeal.Value.G6 (F := Ideal) a0 a1 a2 a3 a4 a5
    = k0_pay1 (F := Ideal) (k0_pay2 a2) (k0_pay4 a0 a1 a3 a4) (k0_pay5 a0 a1 a3 a4) (Scalar.ofBits .f32 0x43E00000#32) a5 := rfl

/-- The stated result at an index. -/
theorem specG_apply (b : Fin 8) (q : Fin 2048) (j : Fin 512) : specG a0 a1 a2 a3 a4 a5 (ix3 b q j)
    = attn (specT a0 a1 a3 a4 b q (⟨j.val / 64, by omega⟩ : Fin 8)) (specV a2 b (⟨j.val % 64, by omega⟩ : Fin 64)) 2048
      (((1 / 256 : ℝ) : EReal) * a5 (ix1 (0 : Fin 1))) := rfl

/-- The reference's result is the stated one. -/
theorem final : Cert.ReferenceIdeal.Value.G6 (F := Ideal) a0 a1 a2 a3 a4 a5 = specG a0 a1 a2 a3 a4 a5 := by
  funext y
  obtain ⟨b, q, j, rfl⟩ : ∃ (b : Fin 8) (q : Fin 2048) (j : Fin 512), y = ix3 b q j := ⟨y 0, y 1, y 2, ValueIdx.eq_ix3 y⟩
  have hj := j.isLt
  rw [G6_eq, pay1_eq]
  rw [narrow_at]
  refine (shapeCast_apply _ _ _ (ix4 b q (⟨j.val / 64, by omega⟩ : Fin 8) (⟨j.val % 64, by omega⟩ : Fin 64)) ?_).trans ?_
  · rw [Shape.rowMajor_val_three, Shape.rowMajor_val_four]
    show ((b.val * 2048 + q.val) * 8 + j.val / 64) * 64 + j.val % 64 = (b.val * 2048 + q.val) * 512 + j.val
    omega
  · refine (headsT_apply a5 _ _ _ b q _ _).trans ?_
    rw [pay4_apply]
    rw [specG_apply, attn]
    congr 2
    refine sum_counted rfl _ _ fun k => ?_
    rw [pay5_apply, values_at, specV, dif_pos k.isLt]

end Cert.Attn.Ref

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.KernelIdeal.Value
public import proofs.«01_k».proof.Proof.Gen.ReferenceIdeal.Value
public import proofs.«01_k».proof.Proof.Ref
public import Idealize.ShloMosaic.Lib.Claim

@[expose] public section

noncomputable section

namespace Cert.Proof

open Idealize.ShloMosaic Idealize.ShloMosaic.TcCoe

/-- From memories agreeing on the arguments both programs end with the stated attention of those arguments. -/
theorem algebraic : @Cert.algebraic_KernelIdeal_ReferenceIdeal Cert.KernelIdeal.Gen.facts Cert.ReferenceIdeal.Gen.facts := by
  intro m ρ m' ρ' _ hag
  refine ⟨fun c => Cert.Attn.specG (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · exact (θ_run _ _ _).mono (fun r h c => ⟨(h c).1.trans (Cert.Attn.final m c), (h c).2⟩) (Cert.KernelIdeal.Value.run_blocks m ρ)
  · refine (θ_run _ _ _).mono (fun r h c => ⟨(h c).1.trans ?_, (h c).2⟩) (Cert.ReferenceIdeal.Value.run m' ρ')
    obtain ⟨h0, h1, h2, h3, h4, h5⟩ := hag c
    refine (Cert.Attn.Ref.final _ _ _ _ _ _).trans ?_
    exact congr (congr (congr (congr (congr (congrArg Cert.Attn.specG h0) h1) h2) h3) h4) h5

/-- Everything the certificate claims: the three programs run to the end, the named constant is within its bound, and kernel and reference, both at
    the extended reals, end with the same result. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ,
    Idealize.ShloMosaic.IdealRules.named_const.statement Cert.KernelIdeal.κ "log2e" .f32 0x3FB8AA3B#32
      (((Real.log 2)⁻¹ : ℝ) : EReal) rfl,
    algebraic⟩

end Cert.Proof

end
